-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v282)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v282) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x256x64x2 : Shape := ⟨4, ![16, 256, 64, 2]⟩
abbrev S16x256x3 : Shape := ⟨3, ![16, 256, 3]⟩
abbrev S16x256x64 : Shape := ⟨3, ![16, 256, 64]⟩
abbrev S16x256 : Shape := ⟨2, ![16, 256]⟩
abbrev S64x5 : Shape := ⟨2, ![64, 5]⟩
abbrev S64 : Shape := ⟨1, ![64]⟩
abbrev S64x64 : Shape := ⟨2, ![64, 64]⟩
abbrev S64x128 : Shape := ⟨2, ![64, 128]⟩
abbrev S_ : Shape := ⟨0, ![]⟩

class Facts : Prop where
  bcast_S_S16x256x64x2 : S_.BroadcastsInDim S16x256x64x2 (![] : Fin 0 → Fin S16x256x64x2.rank)
  reducesTo_S16x256x64x2_S_d0_1_2_3 : S16x256x64x2.ReducesTo [0, 1, 2, 3] S_
  h_S_ : 0 < S_.numel
  bcast_S_S16x256x3 : S_.BroadcastsInDim S16x256x3 (![] : Fin 0 → Fin S16x256x3.rank)
  reducesTo_S16x256x3_S_d0_1_2 : S16x256x3.ReducesTo [0, 1, 2] S_
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_

variable [Facts]

def fn_part4 {F : FTy → Type} [FloatOps F] (main_arg16 : FVec F S64x64 .f32) (main_arg17 : FVec F S64 .f32) (main_v53 : IVec S_ 1) (main_v67 : IVec S_ 1) : IVec S_ 1 :=
  let main_v68 : IVec S_ 1 := andi main_v53 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S64x128 .f32) (main_arg14 : FVec F S64 .f32) (main_arg15 : FVec F S64 .f32) (main_arg16 : FVec F S64x64 .f32) (main_arg17 : FVec F S64 .f32) (main_v38 : IVec S_ 1) (main_v47 : IVec S_ 1) (main_v50 : IVec S64 1) : IVec S_ 1 :=
  let main_c_19 : IVec S_ 1 := constantI S_ 1 1#1
  let main_v51 : IVec S_ 1 := (fun x v => Host.reduce IntOp.andi x v reducesTo_S64_S_d0 h_S_) main_v50 main_c_19
  let main_v52 : IVec S_ 1 := andi main_v47 main_v51
  let main_v53 : IVec S_ 1 := andi main_v38 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : FVec F S64 .f32 := Host.absf main_arg14
  let main_cst_22 : FVec F S_ .f32 := constant S_ .f32 0x7F800000#32
  let main_v59 : FVec F S64 .f32 := broadcastInDim S64 ![] bcast_S_S64 main_cst_22
  let main_v60 : IVec S64 1 := cmpf .olt main_v58 main_v59
  let main_c_23 : IVec S_ 1 := constantI S_ 1 1#1
  let main_v61 : IVec S_ 1 := (fun x v => Host.reduce IntOp.andi x v reducesTo_S64_S_d0 h_S_) main_v60 main_c_23
  let main_v62 : IVec S_ 1 := andi main_v57 main_v61
  let main_v63 : FVec F S64 .f32 := Host.absf main_arg15
  let main_cst_24 : FVec F S_ .f32 := constant S_ .f32 0x7F800000#32
  let main_v64 : FVec F S64 .f32 := broadcastInDim S64 ![] bcast_S_S64 main_cst_24
  let main_v65 : IVec S64 1 := cmpf .olt main_v63 main_v64
  let main_c_25 : IVec S_ 1 := constantI S_ 1 1#1
  let main_v66 : IVec S_ 1 := (fun x v => Host.reduce IntOp.andi x v reducesTo_S64_S_d0 h_S_) main_v65 main_c_25
  let main_v67 : IVec S_ 1 := andi main_v62 main_v66
  fn_part4 (F := F) main_arg16 main_arg17 main_v53 main_v67

def fn_part2 {F : FTy → Type} [FloatOps F] (main_arg10 : FVec F S64x64 .f32) (main_arg11 : FVec F S64 .f32) (main_arg12 : FVec F S64 .f32) (main_arg13 : FVec F S64x128 .f32) (main_arg14 : FVec F S64 .f32) (main_arg15 : FVec F S64 .f32) (main_arg16 : FVec F S64x64 .f32) (main_arg17 : FVec F S64 .f32) (main_v23 : IVec S_ 1) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : IVec S_ 1 := andi main_v23 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : FVec F S64 .f32 := Host.absf main_arg11
  let main_cst_16 : FVec F S_ .f32 := constant S_ .f32 0x7F800000#32
  let main_v44 : FVec F S64 .f32 := broadcastInDim S64 ![] bcast_S_S64 main_cst_16
  let main_v45 : IVec S64 1 := cmpf .olt main_v43 main_v44
  let main_c_17 : IVec S_ 1 := constantI S_ 1 1#1
  let main_v46 : IVec S_ 1 := (fun x v => Host.reduce IntOp.andi x v reducesTo_S64_S_d0 h_S_) main_v45 main_c_17
  let main_v47 : IVec S_ 1 := andi main_v42 main_v46
  let main_v48 : FVec F S64 .f32 := Host.absf main_arg12
  let main_cst_18 : FVec F S_ .f32 := constant S_ .f32 0x7F800000#32
  let main_v49 : FVec F S64 .f32 := broadcastInDim S64 ![] bcast_S_S64 main_cst_18
  let main_v50 : IVec S64 1 := cmpf .olt main_v48 main_v49
  fn_part3 (F := F) main_arg13 main_arg14 main_arg15 main_arg16 main_arg17 main_v38 main_v47 main_v50

def fn_part1 {F : FTy → Type} [FloatOps F] (main_arg6 : FVec F S64 .f32) (main_arg7 : FVec F S64x64 .f32) (main_arg8 : FVec F S64 .f32) (main_arg9 : FVec F S64 .f32) (main_arg10 : FVec F S64x64 .f32) (main_arg11 : FVec F S64 .f32) (main_arg12 : FVec F S64 .f32) (main_arg13 : FVec F S64x128 .f32) (main_arg14 : FVec F S64 .f32) (main_arg15 : FVec F S64 .f32) (main_arg16 : FVec F S64x64 .f32) (main_arg17 : FVec F S64 .f32) (main_v8 : IVec S_ 1) (main_v12 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v12 main_v16
  let main_v18 : FVec F S64 .f32 := Host.absf main_arg6
  let main_cst_6 : FVec F S_ .f32 := constant S_ .f32 0x7F800000#32
  let main_v19 : FVec F S64 .f32 := broadcastInDim S64 ![] bcast_S_S64 main_cst_6
  let main_v20 : IVec S64 1 := cmpf .olt main_v18 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v17 main_v21
  let main_v23 : IVec S_ 1 := andi main_v8 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : FVec F S64 .f32 := Host.absf main_arg8
  let main_cst_10 : FVec F S_ .f32 := constant S_ .f32 0x7F800000#32
  let main_v29 : FVec F S64 .f32 := broadcastInDim S64 ![] bcast_S_S64 main_cst_10
  let main_v30 : IVec S64 1 := cmpf .olt main_v28 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v27 main_v31
  let main_v33 : FVec F S64 .f32 := Host.absf main_arg9
  fn_part2 (F := F) main_arg10 main_arg11 main_arg12 main_arg13 main_arg14 main_arg15 main_arg16 main_arg17 main_v23 main_v32 main_v33

def fn {F : FTy → Type} [FloatOps F] (main_arg0 : FVec F S16x256x64x2 .f32) (main_arg1 : FVec F S16x256x3 .f32) (main_arg2 : IVec S16x256x64 1) (main_arg3 : IVec S16x256 1) (main_arg4 : FVec F S64x5 .f32) (main_arg5 : FVec F S64 .f32) (main_arg6 : FVec F S64 .f32) (main_arg7 : FVec F S64x64 .f32) (main_arg8 : FVec F S64 .f32) (main_arg9 : FVec F S64 .f32) (main_arg10 : FVec F S64x64 .f32) (main_arg11 : FVec F S64 .f32) (main_arg12 : FVec F S64 .f32) (main_arg13 : FVec F S64x128 .f32) (main_arg14 : FVec F S64 .f32) (main_arg15 : FVec F S64 .f32) (main_arg16 : FVec F S64x64 .f32) (main_arg17 : FVec F S64 .f32) (main_arg18 : FVec F S64 .f32) (main_arg19 : FVec F S64x64 .f32) (main_arg20 : FVec F S64 .f32) (main_arg21 : FVec F S64x64 .f32) (main_arg22 : FVec F S64 .f32) : IVec S_ 1 :=
  let main_v0 : FVec F S16x256x64x2 .f32 := Host.absf main_arg0
  let main_cst : FVec F S_ .f32 := constant S_ .f32 0x7F800000#32
  let main_v1 : FVec F S16x256x64x2 .f32 := broadcastInDim S16x256x64x2 ![] bcast_S_S16x256x64x2 main_cst
  let main_v2 : IVec S16x256x64x2 1 := cmpf .olt main_v0 main_v1
  let main_c : IVec S_ 1 := constantI S_ 1 1#1
  let main_v3 : IVec S_ 1 := (fun x v => Host.reduce IntOp.andi x v reducesTo_S16x256x64x2_S_d0_1_2_3 h_S_) main_v2 main_c
  let main_v4 : FVec F S16x256x3 .f32 := Host.absf main_arg1
  let main_cst_0 : FVec F S_ .f32 := constant S_ .f32 0x7F800000#32
  let main_v5 : FVec F S16x256x3 .f32 := broadcastInDim S16x256x3 ![] bcast_S_S16x256x3 main_cst_0
  let main_v6 : IVec S16x256x3 1 := cmpf .olt main_v4 main_v5
  let main_c_1 : IVec S_ 1 := constantI S_ 1 1#1
  let main_v7 : IVec S_ 1 := (fun x v => Host.reduce IntOp.andi x v reducesTo_S16x256x3_S_d0_1_2 h_S_) main_v6 main_c_1
  let main_v8 : IVec S_ 1 := andi main_v3 main_v7
  let main_v9 : FVec F S64x5 .f32 := Host.absf main_arg4
  let main_cst_2 : FVec F S_ .f32 := constant S_ .f32 0x7F800000#32
  let main_v10 : FVec F S64x5 .f32 := broadcastInDim S64x5 ![] bcast_S_S64x5 main_cst_2
  let main_v11 : IVec S64x5 1 := cmpf .olt main_v9 main_v10
  let main_c_3 : IVec S_ 1 := constantI S_ 1 1#1
  let main_v12 : IVec S_ 1 := (fun x v => Host.reduce IntOp.andi x v reducesTo_S64x5_S_d0_1 h_S_) main_v11 main_c_3
  let main_v13 : FVec F S64 .f32 := Host.absf main_arg5
  let main_cst_4 : FVec F S_ .f32 := constant S_ .f32 0x7F800000#32
  let main_v14 : FVec F S64 .f32 := broadcastInDim S64 ![] bcast_S_S64 main_cst_4
  let main_v15 : IVec S64 1 := cmpf .olt main_v13 main_v14
  let main_c_5 : IVec S_ 1 := constantI S_ 1 1#1
  fn_part1 (F := F) main_arg6 main_arg7 main_arg8 main_arg9 main_arg10 main_arg11 main_arg12 main_arg13 main_arg14 main_arg15 main_arg16 main_arg17 main_v8 main_v12 main_v15 main_c_5
-- ==== Kernel.lean ====
abbrev S16x256x64x2 : Shape := ⟨4, ![16, 256, 64, 2]⟩
abbrev S16x256x3 : Shape := ⟨3, ![16, 256, 3]⟩
abbrev S16x256x64 : Shape := ⟨3, ![16, 256, 64]⟩
abbrev S16x256 : Shape := ⟨2, ![16, 256]⟩
abbrev S64x5 : Shape := ⟨2, ![64, 5]⟩
abbrev S64 : Shape := ⟨1, ![64]⟩
abbrev S64x64 : Shape := ⟨2, ![64, 64]⟩
abbrev S64x128 : Shape := ⟨2, ![64, 128]⟩
abbrev S4096x64x2 : Shape := ⟨3, ![4096, 64, 2]⟩
abbrev S4096x63x2 : Shape := ⟨3, ![4096, 63, 2]⟩
abbrev S_ : Shape := ⟨0, ![]⟩
abbrev S4096x1x2 : Shape := ⟨3, ![4096, 1, 2]⟩
abbrev S262144x1 : Shape := ⟨2, ![262144, 1]⟩
abbrev S4096x64x1 : Shape := ⟨3, ![4096, 64, 1]⟩
abbrev S4096x64 : Shape := ⟨2, ![4096, 64]⟩
abbrev S16x256x1 : Shape := ⟨3, ![16, 256, 1]⟩
abbrev S16x256x1x1 : Shape := ⟨4, ![16, 256, 1, 1]⟩
abbrev S16x256x64x1 : Shape := ⟨4, ![16, 256, 64, 1]⟩
abbrev S262144x5 : Shape := ⟨2, ![262144, 5]⟩
abbrev S131072x5 : Shape := ⟨2, ![131072, 5]⟩
abbrev S131072x10 : Shape := ⟨2, ![131072, 10]⟩
abbrev S131072x1 : Shape := ⟨2, ![131072, 1]⟩
abbrev S131072 : Shape := ⟨1, ![131072]⟩
abbrev S1x131072 : Shape := ⟨2, ![1, 131072]⟩
abbrev S2x131072 : Shape := ⟨2, ![2, 131072]⟩
abbrev S4096x1 : Shape := ⟨2, ![4096, 1]⟩
abbrev S2048x1 : Shape := ⟨2, ![2048, 1]⟩
abbrev S2048 : Shape := ⟨1, ![2048]⟩
abbrev S1x2048 : Shape := ⟨2, ![1, 2048]⟩
abbrev S2x2048 : Shape := ⟨2, ![2, 2048]⟩
abbrev S5x64 : Shape := ⟨2, ![5, 64]⟩
abbrev S2x2 : Shape := ⟨2, ![2, 2]⟩
abbrev S2x1x2x1 : Shape := ⟨4, ![2, 1, 2, 1]⟩
abbrev S1x5x1x64 : Shape := ⟨4, ![1, 5, 1, 64]⟩
abbrev S2x5x2x64 : Shape := ⟨4, ![2, 5, 2, 64]⟩
abbrev S10x128 : Shape := ⟨2, ![10, 128]⟩
abbrev S1x64x1x64 : Shape := ⟨4, ![1, 64, 1, 64]⟩
abbrev S2x64x2x64 : Shape := ⟨4, ![2, 64, 2, 64]⟩
abbrev S128x128 : Shape := ⟨2, ![128, 128]⟩
abbrev S128x64 : Shape := ⟨2, ![128, 64]⟩
abbrev S256x128 : Shape := ⟨2, ![256, 128]⟩
abbrev S128 : Shape := ⟨1, ![128]⟩
abbrev S1x128 : Shape := ⟨2, ![1, 128]⟩
abbrev S2x128 : Shape := ⟨2, ![2, 128]⟩
abbrev S1x1 : Shape := ⟨2, ![1, 1]⟩
abbrev S16384x10 : Shape := ⟨2, ![16384, 10]⟩
abbrev S2x16384 : Shape := ⟨2, ![2, 16384]⟩
abbrev S16384x128 : Shape := ⟨2, ![16384, 128]⟩
abbrev S1x2x16384 : Shape := ⟨3, ![1, 2, 16384]⟩
abbrev S1 : Shape := ⟨1, ![1]⟩
abbrev S1x1x1 : Shape := ⟨3, ![1, 1, 1]⟩
abbrev S1x64 : Shape := ⟨2, ![1, 64]⟩
abbrev S131072x128 : Shape := ⟨2, ![131072, 128]⟩
abbrev S2048x128 : Shape := ⟨2, ![2048, 128]⟩
abbrev S256x64x128 : Shape := ⟨3, ![256, 64, 128]⟩
abbrev S256x1x128 : Shape := ⟨3, ![256, 1, 128]⟩
abbrev S16384x256 : Shape := ⟨2, ![16384, 256]⟩
abbrev S2x256 : Shape := ⟨2, ![2, 256]⟩
abbrev S2048x64 : Shape := ⟨2, ![2048, 64]⟩

abbrev nBuf : Space → Nat
  | .hbm => 373
  | .vmem => 80
  | .smem => 0
  | _ => 0

abbrev hbmTy0_0 (i : Nat) : BufTy := match i % 128 with
  | 0 => ⟨S16x256x64x2, .f32⟩
  | 1 => ⟨S16x256x3, .f32⟩
  | 2 => ⟨S16x256x64, .i1⟩
  | 3 => ⟨S16x256, .i1⟩
  | 4 => ⟨S64x5, .f32⟩
  | 5 => ⟨S64, .f32⟩
  | 6 => ⟨S64, .f32⟩
  | 7 => ⟨S64x64, .f32⟩
  | 8 => ⟨S64, .f32⟩
  | 9 => ⟨S64, .f32⟩
  | 10 => ⟨S64x64, .f32⟩
  | 11 => ⟨S64, .f32⟩
  | 12 => ⟨S64, .f32⟩
  | 13 => ⟨S64x128, .f32⟩
  | 14 => ⟨S64, .f32⟩
  | 15 => ⟨S64, .f32⟩
  | 16 => ⟨S64x64, .f32⟩
  | 17 => ⟨S64, .f32⟩
  | 18 => ⟨S64, .f32⟩
  | 19 => ⟨S64x64, .f32⟩
  | 20 => ⟨S64, .f32⟩
  | 21 => ⟨S64x64, .f32⟩
  | 22 => ⟨S64, .f32⟩
  | 23 => ⟨S4096x64x2, .f32⟩
  | 24 => ⟨S4096x63x2, .f32⟩
  | 25 => ⟨S4096x63x2, .f32⟩
  | 26 => ⟨S4096x63x2, .f32⟩
  | 27 => ⟨S_, .f32⟩
  | 28 => ⟨S4096x1x2, .f32⟩
  | 29 => ⟨S4096x64x2, .f32⟩
  | 30 => ⟨S16x256x64, .i1⟩
  | 31 => ⟨S262144x1, .i1⟩
  | 32 => ⟨S262144x1, .f32⟩
  | 33 => ⟨S4096x64x1, .f32⟩
  | 34 => ⟨S4096x64, .f32⟩
  | 35 => ⟨S262144x1, .f32⟩
  | 36 => ⟨S4096x64x1, .f32⟩
  | 37 => ⟨S4096x64, .f32⟩
  | 38 => ⟨S262144x1, .f32⟩
  | 39 => ⟨S262144x1, .f32⟩
  | 40 => ⟨S262144x1, .f32⟩
  | 41 => ⟨S262144x1, .f32⟩
  | 42 => ⟨S262144x1, .f32⟩
  | 43 => ⟨S16x256x1, .f32⟩
  | 44 => ⟨S16x256x1x1, .f32⟩
  | 45 => ⟨S16x256x64x1, .f32⟩
  | 46 => ⟨S262144x1, .f32⟩
  | 47 => ⟨S262144x1, .f32⟩
  | 48 => ⟨S16x256x1, .f32⟩
  | 49 => ⟨S16x256x1x1, .f32⟩
  | 50 => ⟨S16x256x64x1, .f32⟩
  | 51 => ⟨S262144x1, .f32⟩
  | 52 => ⟨S262144x1, .f32⟩
  | 53 => ⟨S262144x5, .f32⟩
  | 54 => ⟨S131072x5, .f32⟩
  | 55 => ⟨S131072x5, .f32⟩
  | 56 => ⟨S131072x10, .f32⟩
  | 57 => ⟨S131072x10, .bf16⟩
  | 58 => ⟨S131072x1, .f32⟩
  | 59 => ⟨S131072, .f32⟩
  | 60 => ⟨S131072x1, .f32⟩
  | 61 => ⟨S131072, .f32⟩
  | 62 => ⟨S1x131072, .f32⟩
  | 63 => ⟨S1x131072, .f32⟩
  | 64 => ⟨S2x131072, .f32⟩
  | 65 => ⟨S2x131072, .bf16⟩
  | 66 => ⟨S16x256, .i1⟩
  | 67 => ⟨S4096x1, .i1⟩
  | 68 => ⟨S4096x1, .f32⟩
  | 69 => ⟨S2048x1, .f32⟩
  | 70 => ⟨S2048, .f32⟩
  | 71 => ⟨S2048x1, .f32⟩
  | 72 => ⟨S2048, .f32⟩
  | 73 => ⟨S1x2048, .f32⟩
  | 74 => ⟨S1x2048, .f32⟩
  | 75 => ⟨S2x2048, .f32⟩
  | 76 => ⟨S2x2048, .bf16⟩
  | 77 => ⟨S5x64, .f32⟩
  | 78 => ⟨S2x2, .i32⟩
  | 79 => ⟨S2x2, .i32⟩
  | 80 => ⟨S_, .i32⟩
  | 81 => ⟨S2x2, .i32⟩
  | 82 => ⟨S2x2, .i32⟩
  | 83 => ⟨S2x2, .i1⟩
  | 84 => ⟨S2x2, .f32⟩
  | 85 => ⟨S2x1x2x1, .f32⟩
  | 86 => ⟨S1x5x1x64, .f32⟩
  | 87 => ⟨S2x5x2x64, .f32⟩
  | 88 => ⟨S2x5x2x64, .f32⟩
  | 89 => ⟨S2x5x2x64, .f32⟩
  | 90 => ⟨S10x128, .f32⟩
  | 91 => ⟨S10x128, .bf16⟩
  | 92 => ⟨S64x64, .f32⟩
  | 93 => ⟨S2x2, .i32⟩
  | 94 => ⟨S2x2, .i32⟩
  | 95 => ⟨S_, .i32⟩
  | 96 => ⟨S2x2, .i32⟩
  | 97 => ⟨S2x2, .i32⟩
  | 98 => ⟨S2x2, .i1⟩
  | 99 => ⟨S2x2, .f32⟩
  | 100 => ⟨S2x1x2x1, .f32⟩
  | 101 => ⟨S1x64x1x64, .f32⟩
  | 102 => ⟨S2x64x2x64, .f32⟩
  | 103 => ⟨S2x64x2x64, .f32⟩
  | 104 => ⟨S2x64x2x64, .f32⟩
  | 105 => ⟨S128x128, .f32⟩
  | 106 => ⟨S128x128, .bf16⟩
  | 107 => ⟨S64x64, .f32⟩
  | 108 => ⟨S2x2, .i32⟩
  | 109 => ⟨S2x2, .i32⟩
  | 110 => ⟨S_, .i32⟩
  | 111 => ⟨S2x2, .i32⟩
  | 112 => ⟨S2x2, .i32⟩
  | 113 => ⟨S2x2, .i1⟩
  | 114 => ⟨S2x2, .f32⟩
  | 115 => ⟨S2x1x2x1, .f32⟩
  | 116 => ⟨S1x64x1x64, .f32⟩
  | 117 => ⟨S2x64x2x64, .f32⟩
  | 118 => ⟨S2x64x2x64, .f32⟩
  | 119 => ⟨S2x64x2x64, .f32⟩
  | 120 => ⟨S128x128, .f32⟩
  | 121 => ⟨S128x128, .bf16⟩
  | 122 => ⟨S128x64, .f32⟩
  | 123 => ⟨S64x64, .f32⟩
  | 124 => ⟨S2x2, .i32⟩
  | 125 => ⟨S2x2, .i32⟩
  | 126 => ⟨S_, .i32⟩
  | 127 => ⟨S2x2, .i32⟩
  | _ => ⟨S16x256x64x2, .f32⟩

abbrev hbmTy0_1 (i : Nat) : BufTy := match i % 128 with
  | 0 => ⟨S2x2, .i32⟩
  | 1 => ⟨S2x2, .i1⟩
  | 2 => ⟨S2x2, .f32⟩
  | 3 => ⟨S2x1x2x1, .f32⟩
  | 4 => ⟨S1x64x1x64, .f32⟩
  | 5 => ⟨S2x64x2x64, .f32⟩
  | 6 => ⟨S2x64x2x64, .f32⟩
  | 7 => ⟨S2x64x2x64, .f32⟩
  | 8 => ⟨S128x128, .f32⟩
  | 9 => ⟨S128x128, .bf16⟩
  | 10 => ⟨S128x64, .f32⟩
  | 11 => ⟨S64x64, .f32⟩
  | 12 => ⟨S2x2, .i32⟩
  | 13 => ⟨S2x2, .i32⟩
  | 14 => ⟨S_, .i32⟩
  | 15 => ⟨S2x2, .i32⟩
  | 16 => ⟨S2x2, .i32⟩
  | 17 => ⟨S2x2, .i1⟩
  | 18 => ⟨S2x2, .f32⟩
  | 19 => ⟨S2x1x2x1, .f32⟩
  | 20 => ⟨S1x64x1x64, .f32⟩
  | 21 => ⟨S2x64x2x64, .f32⟩
  | 22 => ⟨S2x64x2x64, .f32⟩
  | 23 => ⟨S2x64x2x64, .f32⟩
  | 24 => ⟨S128x128, .f32⟩
  | 25 => ⟨S128x128, .bf16⟩
  | 26 => ⟨S256x128, .bf16⟩
  | 27 => ⟨S64x64, .f32⟩
  | 28 => ⟨S2x2, .i32⟩
  | 29 => ⟨S2x2, .i32⟩
  | 30 => ⟨S_, .i32⟩
  | 31 => ⟨S2x2, .i32⟩
  | 32 => ⟨S2x2, .i32⟩
  | 33 => ⟨S2x2, .i1⟩
  | 34 => ⟨S2x2, .f32⟩
  | 35 => ⟨S2x1x2x1, .f32⟩
  | 36 => ⟨S1x64x1x64, .f32⟩
  | 37 => ⟨S2x64x2x64, .f32⟩
  | 38 => ⟨S2x64x2x64, .f32⟩
  | 39 => ⟨S2x64x2x64, .f32⟩
  | 40 => ⟨S128x128, .f32⟩
  | 41 => ⟨S128x128, .bf16⟩
  | 42 => ⟨S64x64, .f32⟩
  | 43 => ⟨S2x2, .i32⟩
  | 44 => ⟨S2x2, .i32⟩
  | 45 => ⟨S_, .i32⟩
  | 46 => ⟨S2x2, .i32⟩
  | 47 => ⟨S2x2, .i32⟩
  | 48 => ⟨S2x2, .i1⟩
  | 49 => ⟨S2x2, .f32⟩
  | 50 => ⟨S2x1x2x1, .f32⟩
  | 51 => ⟨S1x64x1x64, .f32⟩
  | 52 => ⟨S2x64x2x64, .f32⟩
  | 53 => ⟨S2x64x2x64, .f32⟩
  | 54 => ⟨S2x64x2x64, .f32⟩
  | 55 => ⟨S128x128, .f32⟩
  | 56 => ⟨S128x128, .bf16⟩
  | 57 => ⟨S64x64, .f32⟩
  | 58 => ⟨S2x2, .i32⟩
  | 59 => ⟨S2x2, .i32⟩
  | 60 => ⟨S_, .i32⟩
  | 61 => ⟨S2x2, .i32⟩
  | 62 => ⟨S2x2, .i32⟩
  | 63 => ⟨S2x2, .i1⟩
  | 64 => ⟨S2x2, .f32⟩
  | 65 => ⟨S2x1x2x1, .f32⟩
  | 66 => ⟨S1x64x1x64, .f32⟩
  | 67 => ⟨S2x64x2x64, .f32⟩
  | 68 => ⟨S2x64x2x64, .f32⟩
  | 69 => ⟨S2x64x2x64, .f32⟩
  | 70 => ⟨S128x128, .f32⟩
  | 71 => ⟨S128x128, .bf16⟩
  | 72 => ⟨S128, .f32⟩
  | 73 => ⟨S1x128, .f32⟩
  | 74 => ⟨S128, .f32⟩
  | 75 => ⟨S1x128, .f32⟩
  | 76 => ⟨S128, .i32⟩
  | 77 => ⟨S_, .i32⟩
  | 78 => ⟨S128, .i32⟩
  | 79 => ⟨S128, .i1⟩
  | 80 => ⟨S128, .i1⟩
  | 81 => ⟨S128, .bf16⟩
  | 82 => ⟨S128, .bf16⟩
  | 83 => ⟨S1x128, .bf16⟩
  | 84 => ⟨S1x128, .bf16⟩
  | 85 => ⟨S2x128, .bf16⟩
  | 86 => ⟨S1x128, .f32⟩
  | 87 => ⟨S1x128, .f32⟩
  | 88 => ⟨S1x1, .f32⟩
  | 89 => ⟨S_, .f32⟩
  | 90 => ⟨S_, .f32⟩
  | 91 => ⟨S_, .f32⟩
  | 92 => ⟨S1x64, .f32⟩
  | 93 => ⟨S64, .f32⟩
  | 94 => ⟨S1x64, .f32⟩
  | 95 => ⟨S64, .f32⟩
  | 96 => ⟨S64, .f32⟩
  | 97 => ⟨S1x64, .f32⟩
  | 98 => ⟨S64, .f32⟩
  | 99 => ⟨S1x64, .f32⟩
  | 100 => ⟨S64, .f32⟩
  | 101 => ⟨S64, .f32⟩
  | 102 => ⟨S64, .f32⟩
  | 103 => ⟨S64, .f32⟩
  | 104 => ⟨S64, .f32⟩
  | 105 => ⟨S64, .f32⟩
  | 106 => ⟨S64, .f32⟩
  | 107 => ⟨S64, .f32⟩
  | 108 => ⟨S_, .f32⟩
  | 109 => ⟨S64, .f32⟩
  | 110 => ⟨S64, .f32⟩
  | 111 => ⟨S64, .f32⟩
  | 112 => ⟨S64, .f32⟩
  | 113 => ⟨S64, .f32⟩
  | 114 => ⟨S64, .f32⟩
  | 115 => ⟨S128, .f32⟩
  | 116 => ⟨S1x128, .f32⟩
  | 117 => ⟨S128, .f32⟩
  | 118 => ⟨S1x128, .f32⟩
  | 119 => ⟨S131072x128, .bf16⟩
  | 120 => ⟨S1x128, .f32⟩
  | 121 => ⟨S1x128, .f32⟩
  | 122 => ⟨S1x64, .f32⟩
  | 123 => ⟨S64, .f32⟩
  | 124 => ⟨S1x64, .f32⟩
  | 125 => ⟨S64, .f32⟩
  | 126 => ⟨S64, .f32⟩
  | 127 => ⟨S1x64, .f32⟩
  | _ => ⟨S16x256x64x2, .f32⟩

abbrev hbmTy0_2 (i : Nat) : BufTy := match i % 128 with
  | 0 => ⟨S64, .f32⟩
  | 1 => ⟨S1x64, .f32⟩
  | 2 => ⟨S64, .f32⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S64, .f32⟩
  | 10 => ⟨S_, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S128, .f32⟩
  | 18 => ⟨S1x128, .f32⟩
  | 19 => ⟨S128, .f32⟩
  | 20 => ⟨S1x128, .f32⟩
  | 21 => ⟨S131072x128, .bf16⟩
  | 22 => ⟨S1x128, .f32⟩
  | 23 => ⟨S1x128, .f32⟩
  | 24 => ⟨S1x64, .f32⟩
  | 25 => ⟨S64, .f32⟩
  | 26 => ⟨S1x64, .f32⟩
  | 27 => ⟨S64, .f32⟩
  | 28 => ⟨S64, .f32⟩
  | 29 => ⟨S1x64, .f32⟩
  | 30 => ⟨S64, .f32⟩
  | 31 => ⟨S1x64, .f32⟩
  | 32 => ⟨S64, .f32⟩
  | 33 => ⟨S64, .f32⟩
  | 34 => ⟨S64, .f32⟩
  | 35 => ⟨S64, .f32⟩
  | 36 => ⟨S64, .f32⟩
  | 37 => ⟨S64, .f32⟩
  | 38 => ⟨S64, .f32⟩
  | 39 => ⟨S64, .f32⟩
  | 40 => ⟨S_, .f32⟩
  | 41 => ⟨S64, .f32⟩
  | 42 => ⟨S64, .f32⟩
  | 43 => ⟨S64, .f32⟩
  | 44 => ⟨S64, .f32⟩
  | 45 => ⟨S64, .f32⟩
  | 46 => ⟨S64, .f32⟩
  | 47 => ⟨S128, .f32⟩
  | 48 => ⟨S1x128, .f32⟩
  | 49 => ⟨S128, .f32⟩
  | 50 => ⟨S1x128, .f32⟩
  | 51 => ⟨S131072x128, .bf16⟩
  | 52 => ⟨S2048x128, .bf16⟩
  | 53 => ⟨S1x128, .f32⟩
  | 54 => ⟨S1x128, .f32⟩
  | 55 => ⟨S1x64, .f32⟩
  | 56 => ⟨S64, .f32⟩
  | 57 => ⟨S1x64, .f32⟩
  | 58 => ⟨S64, .f32⟩
  | 59 => ⟨S64, .f32⟩
  | 60 => ⟨S1x64, .f32⟩
  | 61 => ⟨S64, .f32⟩
  | 62 => ⟨S1x64, .f32⟩
  | 63 => ⟨S64, .f32⟩
  | 64 => ⟨S64, .f32⟩
  | 65 => ⟨S64, .f32⟩
  | 66 => ⟨S64, .f32⟩
  | 67 => ⟨S64, .f32⟩
  | 68 => ⟨S64, .f32⟩
  | 69 => ⟨S64, .f32⟩
  | 70 => ⟨S64, .f32⟩
  | 71 => ⟨S_, .f32⟩
  | 72 => ⟨S64, .f32⟩
  | 73 => ⟨S64, .f32⟩
  | 74 => ⟨S64, .f32⟩
  | 75 => ⟨S64, .f32⟩
  | 76 => ⟨S64, .f32⟩
  | 77 => ⟨S64, .f32⟩
  | 78 => ⟨S128, .f32⟩
  | 79 => ⟨S1x128, .f32⟩
  | 80 => ⟨S128, .f32⟩
  | 81 => ⟨S1x128, .f32⟩
  | 82 => ⟨S131072x128, .bf16⟩
  | 83 => ⟨S1x128, .f32⟩
  | 84 => ⟨S1x128, .f32⟩
  | 85 => ⟨S1x64, .f32⟩
  | 86 => ⟨S64, .f32⟩
  | 87 => ⟨S1x64, .f32⟩
  | 88 => ⟨S64, .f32⟩
  | 89 => ⟨S64, .f32⟩
  | 90 => ⟨S1x64, .f32⟩
  | 91 => ⟨S64, .f32⟩
  | 92 => ⟨S1x64, .f32⟩
  | 93 => ⟨S64, .f32⟩
  | 94 => ⟨S64, .f32⟩
  | 95 => ⟨S64, .f32⟩
  | 96 => ⟨S64, .f32⟩
  | 97 => ⟨S64, .f32⟩
  | 98 => ⟨S64, .f32⟩
  | 99 => ⟨S64, .f32⟩
  | 100 => ⟨S64, .f32⟩
  | 101 => ⟨S_, .f32⟩
  | 102 => ⟨S64, .f32⟩
  | 103 => ⟨S64, .f32⟩
  | 104 => ⟨S64, .f32⟩
  | 105 => ⟨S64, .f32⟩
  | 106 => ⟨S64, .f32⟩
  | 107 => ⟨S64, .f32⟩
  | 108 => ⟨S128, .f32⟩
  | 109 => ⟨S1x128, .f32⟩
  | 110 => ⟨S128, .f32⟩
  | 111 => ⟨S1x128, .f32⟩
  | 112 => ⟨S2048x128, .f32⟩
  | 113 => ⟨S2048x64, .f32⟩
  | 114 => ⟨S2048x64, .f32⟩
  | 115 => ⟨S4096x64, .f32⟩
  | 116 => ⟨S16x256x64, .f32⟩
  | _ => ⟨S16x256x64x2, .f32⟩

abbrev hbmTy (i : Nat) : BufTy := match i / 128 with
  | 0 => hbmTy0_0 i
  | 1 => hbmTy0_1 i
  | 2 => hbmTy0_2 i
  | _ => ⟨S16x256x64x2, .f32⟩

abbrev bufTy : (tb : Table) → Fin (tcTables nBuf tb) → BufTy
  | .hbm, ⟨i, _⟩ => hbmTy i
  | .local _ .vmem, ⟨0, _⟩ => ⟨S16384x10, .bf16⟩
  | .local _ .vmem, ⟨1, _⟩ => ⟨S16384x10, .bf16⟩
  | .local _ .vmem, ⟨2, _⟩ => ⟨S2x16384, .bf16⟩
  | .local _ .vmem, ⟨3, _⟩ => ⟨S2x16384, .bf16⟩
  | .local _ .vmem, ⟨4, _⟩ => ⟨S10x128, .bf16⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S16384x10, .bf16⟩
  | .local _ .vmem, ⟨9, _⟩ => ⟨S16384x10, .bf16⟩
  | .local _ .vmem, ⟨10, _⟩ => ⟨S2x16384, .bf16⟩
  | .local _ .vmem, ⟨11, _⟩ => ⟨S2x16384, .bf16⟩
  | .local _ .vmem, ⟨12, _⟩ => ⟨S10x128, .bf16⟩
  | .local _ .vmem, ⟨13, _⟩ => ⟨S128x128, .bf16⟩
  | .local _ .vmem, ⟨14, _⟩ => ⟨S1x128, .f32⟩
  | .local _ .vmem, ⟨15, _⟩ => ⟨S1x128, .f32⟩
  | .local _ .vmem, ⟨16, _⟩ => ⟨S2x128, .bf16⟩
  | .local _ .vmem, ⟨17, _⟩ => ⟨S16384x128, .bf16⟩
  | .local _ .vmem, ⟨18, _⟩ => ⟨S16384x128, .bf16⟩
  | .local _ .vmem, ⟨19, _⟩ => ⟨S1x128, .f32⟩
  | .local _ .vmem, ⟨20, _⟩ => ⟨S1x128, .f32⟩
  | .local _ .vmem, ⟨21, _⟩ => ⟨S16384x128, .bf16⟩
  | .local _ .vmem, ⟨22, _⟩ => ⟨S16384x128, .bf16⟩
  | .local _ .vmem, ⟨23, _⟩ => ⟨S2x16384, .bf16⟩
  | .local _ .vmem, ⟨24, _⟩ => ⟨S2x16384, .bf16⟩
  | .local _ .vmem, ⟨25, _⟩ => ⟨S128x128, .bf16⟩
  | .local _ .vmem, ⟨26, _⟩ => ⟨S128x128, .bf16⟩
  | .local _ .vmem, ⟨27, _⟩ => ⟨S1x128, .f32⟩
  | .local _ .vmem, ⟨28, _⟩ => ⟨S1x128, .f32⟩
  | .local _ .vmem, ⟨29, _⟩ => ⟨S2x128, .bf16⟩
  | .local _ .vmem, ⟨30, _⟩ => ⟨S16384x128, .bf16⟩
  | .local _ .vmem, ⟨31, _⟩ => ⟨S16384x128, .bf16⟩
  | .local _ .vmem, ⟨32, _⟩ => ⟨S1x128, .f32⟩
  | .local _ .vmem, ⟨33, _⟩ => ⟨S1x128, .f32⟩
  | .local _ .vmem, ⟨34, _⟩ => ⟨S16384x128, .bf16⟩
  | .local _ .vmem, ⟨35, _⟩ => ⟨S16384x128, .bf16⟩
  | .local _ .vmem, ⟨36, _⟩ => ⟨S2x16384, .bf16⟩
  | .local _ .vmem, ⟨37, _⟩ => ⟨S2x16384, .bf16⟩
  | .local _ .vmem, ⟨38, _⟩ => ⟨S128x128, .bf16⟩
  | .local _ .vmem, ⟨39, _⟩ => ⟨S256x128, .bf16⟩
  | .local _ .vmem, ⟨40, _⟩ => ⟨S1x128, .f32⟩
  | .local _ .vmem, ⟨41, _⟩ => ⟨S1x128, .f32⟩
  | .local _ .vmem, ⟨42, _⟩ => ⟨S2x128, .bf16⟩
  | .local _ .vmem, ⟨43, _⟩ => ⟨S16384x128, .bf16⟩
  | .local _ .vmem, ⟨44, _⟩ => ⟨S16384x128, .bf16⟩
  | .local _ .vmem, ⟨45, _⟩ => ⟨S256x128, .bf16⟩
  | .local _ .vmem, ⟨46, _⟩ => ⟨S256x128, .bf16⟩
  | .local _ .vmem, ⟨47, _⟩ => ⟨S1x128, .f32⟩
  | .local _ .vmem, ⟨48, _⟩ => ⟨S1x128, .f32⟩
  | .local _ .vmem, ⟨49, _⟩ => ⟨S16384x128, .bf16⟩
  | .local _ .vmem, ⟨50, _⟩ => ⟨S16384x128, .bf16⟩
  | .local _ .vmem, ⟨51, _⟩ => ⟨S256x128, .bf16⟩
  | .local _ .vmem, ⟨52, _⟩ => ⟨S256x128, .bf16⟩
  | .local _ .vmem, ⟨53, _⟩ => ⟨S2x16384, .bf16⟩
  | .local _ .vmem, ⟨54, _⟩ => ⟨S2x16384, .bf16⟩
  | .local _ .vmem, ⟨55, _⟩ => ⟨S256x128, .bf16⟩
  | .local _ .vmem, ⟨56, _⟩ => ⟨S128x128, .bf16⟩
  | .local _ .vmem, ⟨57, _⟩ => ⟨S1x128, .f32⟩
  | .local _ .vmem, ⟨58, _⟩ => ⟨S1x128, .f32⟩
  | .local _ .vmem, ⟨59, _⟩ => ⟨S2x128, .bf16⟩
  | .local _ .vmem, ⟨60, _⟩ => ⟨S16384x128, .bf16⟩
  | .local _ .vmem, ⟨61, _⟩ => ⟨S16384x128, .bf16⟩
  | .local _ .vmem, ⟨62, _⟩ => ⟨S1x128, .f32⟩
  | .local _ .vmem, ⟨63, _⟩ => ⟨S1x128, .f32⟩
  | .local _ .vmem, ⟨64, _⟩ => ⟨S16384x128, .bf16⟩
  | .local _ .vmem, ⟨65, _⟩ => ⟨S16384x128, .bf16⟩
  | .local _ .vmem, ⟨66, _⟩ => ⟨S2x16384, .bf16⟩
  | .local _ .vmem, ⟨67, _⟩ => ⟨S2x16384, .bf16⟩
  | .local _ .vmem, ⟨68, _⟩ => ⟨S2x256, .bf16⟩
  | .local _ .vmem, ⟨69, _⟩ => ⟨S2x256, .bf16⟩
  | .local _ .vmem, ⟨70, _⟩ => ⟨S128x128, .bf16⟩
  | .local _ .vmem, ⟨71, _⟩ => ⟨S1x128, .f32⟩
  | .local _ .vmem, ⟨72, _⟩ => ⟨S1x128, .f32⟩
  | .local _ .vmem, ⟨73, _⟩ => ⟨S2x128, .bf16⟩
  | .local _ .vmem, ⟨74, _⟩ => ⟨S128x128, .bf16⟩
  | .local _ .vmem, ⟨75, _⟩ => ⟨S1x128, .f32⟩
  | .local _ .vmem, ⟨76, _⟩ => ⟨S128x128, .bf16⟩
  | .local _ .vmem, ⟨77, _⟩ => ⟨S1x128, .f32⟩
  | .local _ .vmem, ⟨78, _⟩ => ⟨S256x128, .f32⟩
  | .local _ .vmem, ⟨79, _⟩ => ⟨S256x128, .f32⟩
  | _, _ => ⟨S16x256x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_1 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_2 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_c_3 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_c_4 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_call5_v0 : Ref sig .tc := ⟨.hbm, 163, rfl⟩
abbrev main_call5_v1 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_c_5 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_c_6 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_call7_v0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_c_7 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141_0 : Ref sig .tc := ⟨.hbm, 214, rfl⟩
abbrev main_v141_1 : Ref sig .tc := ⟨.hbm, 215, rfl⟩
abbrev main_v141_2 : Ref sig .tc := ⟨.hbm, 216, rfl⟩
abbrev main_v142 : Ref sig .tc := ⟨.hbm, 217, rfl⟩
abbrev main_cst_8 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_cst_9 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170_0 : Ref sig .tc := ⟨.hbm, 247, rfl⟩
abbrev main_v170_1 : Ref sig .tc := ⟨.hbm, 248, rfl⟩
abbrev main_v170_2 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_cst_10 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197_0 : Ref sig .tc := ⟨.hbm, 277, rfl⟩
abbrev main_v197_1 : Ref sig .tc := ⟨.hbm, 278, rfl⟩
abbrev main_v197_2 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_cst_11 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224_0 : Ref sig .tc := ⟨.hbm, 307, rfl⟩
abbrev main_v224_1 : Ref sig .tc := ⟨.hbm, 308, rfl⟩
abbrev main_v224_2 : Ref sig .tc := ⟨.hbm, 309, rfl⟩
abbrev main_v224_3 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_cst_12 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251_0 : Ref sig .tc := ⟨.hbm, 338, rfl⟩
abbrev main_v251_1 : Ref sig .tc := ⟨.hbm, 339, rfl⟩
abbrev main_v251_2 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_cst_13 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg9_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg9_0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg7_1 : Ref sig .tc := ⟨.vmem, 44, rfl⟩
abbrev cc3_stg8_0 : Ref sig .tc := ⟨.vmem, 45, rfl⟩
abbrev cc3_stg8_1 : Ref sig .tc := ⟨.vmem, 46, rfl⟩
abbrev cc3_stg9_0 : Ref sig .tc := ⟨.vmem, 47, rfl⟩
abbrev cc3_stg10_0 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg1_1 : Ref sig .tc := ⟨.vmem, 52, rfl⟩
abbrev cc4_stg2_0 : Ref sig .tc := ⟨.vmem, 53, rfl⟩
abbrev cc4_stg2_1 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg8_0 : Ref sig .tc := ⟨.vmem, 60, rfl⟩
abbrev cc4_stg8_1 : Ref sig .tc := ⟨.vmem, 61, rfl⟩
abbrev cc4_stg9_0 : Ref sig .tc := ⟨.vmem, 62, rfl⟩
abbrev cc4_stg10_0 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg2_1 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg7_0 : Ref sig .tc := ⟨.vmem, 74, rfl⟩
abbrev cc5_stg8_0 : Ref sig .tc := ⟨.vmem, 75, rfl⟩
abbrev cc5_stg9_0 : Ref sig .tc := ⟨.vmem, 76, rfl⟩
abbrev cc5_stg10_0 : Ref sig .tc := ⟨.vmem, 77, rfl⟩
abbrev cc5_stg11_0 : Ref sig .tc := ⟨.vmem, 78, rfl⟩
abbrev cc5_stg11_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem9_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem9_0 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem7_1 : DmaSem sig := 44
abbrev cc3_sem8_0 : DmaSem sig := 45
abbrev cc3_sem8_1 : DmaSem sig := 46
abbrev cc3_sem9_0 : DmaSem sig := 47
abbrev cc3_sem10_0 : DmaSem sig := 48
abbrev cc4_sem0_0 : DmaSem sig := 49
abbrev cc4_sem0_1 : DmaSem sig := 50
abbrev cc4_sem1_0 : DmaSem sig := 51
abbrev cc4_sem1_1 : DmaSem sig := 52
abbrev cc4_sem2_0 : DmaSem sig := 53
abbrev cc4_sem2_1 : DmaSem sig := 54
abbrev cc4_sem3_0 : DmaSem sig := 55
abbrev cc4_sem4_0 : DmaSem sig := 56
abbrev cc4_sem5_0 : DmaSem sig := 57
abbrev cc4_sem6_0 : DmaSem sig := 58
abbrev cc4_sem7_0 : DmaSem sig := 59
abbrev cc4_sem8_0 : DmaSem sig := 60
abbrev cc4_sem8_1 : DmaSem sig := 61
abbrev cc4_sem9_0 : DmaSem sig := 62
abbrev cc4_sem10_0 : DmaSem sig := 63
abbrev cc5_sem0_0 : DmaSem sig := 64
abbrev cc5_sem0_1 : DmaSem sig := 65
abbrev cc5_sem1_0 : DmaSem sig := 66
abbrev cc5_sem1_1 : DmaSem sig := 67
abbrev cc5_sem2_0 : DmaSem sig := 68
abbrev cc5_sem2_1 : DmaSem sig := 69
abbrev cc5_sem3_0 : DmaSem sig := 70
abbrev cc5_sem4_0 : DmaSem sig := 71
abbrev cc5_sem5_0 : DmaSem sig := 72
abbrev cc5_sem6_0 : DmaSem sig := 73
abbrev cc5_sem7_0 : DmaSem sig := 74
abbrev cc5_sem8_0 : DmaSem sig := 75
abbrev cc5_sem9_0 : DmaSem sig := 76
abbrev cc5_sem10_0 : DmaSem sig := 77
abbrev cc5_sem11_0 : DmaSem sig := 78
abbrev cc5_sem11_1 : DmaSem sig := 79

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x10 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16384x10 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x16384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S16384x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S16384x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x16384 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S16384x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S16384x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2x16384 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S16384x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x128 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S16384x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2x16384 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S2x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S16384x128 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16384x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2x16384 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S2x128 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128x128 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S256x128 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]
-- ==== ReferenceIdeal.lean ====
abbrev S16x256x64x2 : Shape := ⟨4, ![16, 256, 64, 2]⟩
abbrev S16x256x3 : Shape := ⟨3, ![16, 256, 3]⟩
abbrev S16x256x64 : Shape := ⟨3, ![16, 256, 64]⟩
abbrev S16x256 : Shape := ⟨2, ![16, 256]⟩
abbrev S64x5 : Shape := ⟨2, ![64, 5]⟩
abbrev S64 : Shape := ⟨1, ![64]⟩
abbrev S64x64 : Shape := ⟨2, ![64, 64]⟩
abbrev S64x128 : Shape := ⟨2, ![64, 128]⟩
abbrev S16x256x63x2 : Shape := ⟨4, ![16, 256, 63, 2]⟩
abbrev S_ : Shape := ⟨0, ![]⟩
abbrev S16x256x1x2 : Shape := ⟨4, ![16, 256, 1, 2]⟩
abbrev S16x256x64x1 : Shape := ⟨4, ![16, 256, 64, 1]⟩
abbrev S16x256x1 : Shape := ⟨3, ![16, 256, 1]⟩
abbrev S16x256x1x1 : Shape := ⟨4, ![16, 256, 1, 1]⟩
abbrev S16x256x64x5 : Shape := ⟨4, ![16, 256, 64, 5]⟩
abbrev S262144x1 : Shape := ⟨2, ![262144, 1]⟩
abbrev S262144x5 : Shape := ⟨2, ![262144, 5]⟩
abbrev S5x64 : Shape := ⟨2, ![5, 64]⟩
abbrev S262144x64 : Shape := ⟨2, ![262144, 64]⟩
abbrev S1x64 : Shape := ⟨2, ![1, 64]⟩
abbrev S16x256x64x64 : Shape := ⟨4, ![16, 256, 64, 64]⟩
abbrev S16x256x1x64 : Shape := ⟨4, ![16, 256, 1, 64]⟩
abbrev S16x256x64x128 : Shape := ⟨4, ![16, 256, 64, 128]⟩
abbrev S262144x128 : Shape := ⟨2, ![262144, 128]⟩
abbrev S128x64 : Shape := ⟨2, ![128, 64]⟩
abbrev S4096x1 : Shape := ⟨2, ![4096, 1]⟩
abbrev S4096x64 : Shape := ⟨2, ![4096, 64]⟩

abbrev nBuf : Space → Nat
  | .hbm => 287
  | .vmem => 0
  | .smem => 0
  | _ => 0

abbrev hbmTy0_0 (i : Nat) : BufTy := match i % 128 with
  | 0 => ⟨S16x256x64x2, .f32⟩
  | 1 => ⟨S16x256x3, .f32⟩
  | 2 => ⟨S16x256x64, .i1⟩
  | 3 => ⟨S16x256, .i1⟩
  | 4 => ⟨S64x5, .f32⟩
  | 5 => ⟨S64, .f32⟩
  | 6 => ⟨S64, .f32⟩
  | 7 => ⟨S64x64, .f32⟩
  | 8 => ⟨S64, .f32⟩
  | 9 => ⟨S64, .f32⟩
  | 10 => ⟨S64x64, .f32⟩
  | 11 => ⟨S64, .f32⟩
  | 12 => ⟨S64, .f32⟩
  | 13 => ⟨S64x128, .f32⟩
  | 14 => ⟨S64, .f32⟩
  | 15 => ⟨S64, .f32⟩
  | 16 => ⟨S64x64, .f32⟩
  | 17 => ⟨S64, .f32⟩
  | 18 => ⟨S64, .f32⟩
  | 19 => ⟨S64x64, .f32⟩
  | 20 => ⟨S64, .f32⟩
  | 21 => ⟨S64x64, .f32⟩
  | 22 => ⟨S64, .f32⟩
  | 23 => ⟨S16x256x63x2, .f32⟩
  | 24 => ⟨S16x256x63x2, .f32⟩
  | 25 => ⟨S16x256x63x2, .f32⟩
  | 26 => ⟨S_, .f32⟩
  | 27 => ⟨S16x256x1x2, .f32⟩
  | 28 => ⟨S16x256x64x2, .f32⟩
  | 29 => ⟨S16x256x64x1, .f32⟩
  | 30 => ⟨S16x256x64, .f32⟩
  | 31 => ⟨S16x256x64x1, .f32⟩
  | 32 => ⟨S16x256x64, .f32⟩
  | 33 => ⟨S16x256x64, .f32⟩
  | 34 => ⟨S16x256x1, .f32⟩
  | 35 => ⟨S16x256, .f32⟩
  | 36 => ⟨S16x256x1x1, .f32⟩
  | 37 => ⟨S16x256x64x1, .f32⟩
  | 38 => ⟨S16x256x1, .f32⟩
  | 39 => ⟨S16x256, .f32⟩
  | 40 => ⟨S16x256x1x1, .f32⟩
  | 41 => ⟨S16x256x64x1, .f32⟩
  | 42 => ⟨S16x256x64x1, .f32⟩
  | 43 => ⟨S16x256x64x5, .f32⟩
  | 44 => ⟨S16x256x64, .i1⟩
  | 45 => ⟨S16x256x64, .f32⟩
  | 46 => ⟨S262144x1, .f32⟩
  | 47 => ⟨S262144x5, .f32⟩
  | 48 => ⟨S5x64, .f32⟩
  | 49 => ⟨S262144x64, .f32⟩
  | 50 => ⟨S_, .f32⟩
  | 51 => ⟨S_, .f32⟩
  | 52 => ⟨S_, .f32⟩
  | 53 => ⟨S_, .f32⟩
  | 54 => ⟨S262144x64, .f32⟩
  | 55 => ⟨S262144x64, .f32⟩
  | 56 => ⟨S_, .f32⟩
  | 57 => ⟨S64, .f32⟩
  | 58 => ⟨S64, .f32⟩
  | 59 => ⟨S64, .f32⟩
  | 60 => ⟨S1x64, .f32⟩
  | 61 => ⟨S262144x64, .f32⟩
  | 62 => ⟨S262144x64, .f32⟩
  | 63 => ⟨S262144x64, .f32⟩
  | 64 => ⟨S262144x64, .f32⟩
  | 65 => ⟨S262144x64, .f32⟩
  | 66 => ⟨S_, .f32⟩
  | 67 => ⟨S64, .f32⟩
  | 68 => ⟨S64, .f32⟩
  | 69 => ⟨S64, .f32⟩
  | 70 => ⟨S1x64, .f32⟩
  | 71 => ⟨S262144x64, .f32⟩
  | 72 => ⟨S262144x64, .f32⟩
  | 73 => ⟨S_, .f32⟩
  | 74 => ⟨S64, .f32⟩
  | 75 => ⟨S64, .f32⟩
  | 76 => ⟨S64, .f32⟩
  | 77 => ⟨S1x64, .f32⟩
  | 78 => ⟨S262144x64, .f32⟩
  | 79 => ⟨S262144x64, .f32⟩
  | 80 => ⟨S1x64, .f32⟩
  | 81 => ⟨S262144x64, .f32⟩
  | 82 => ⟨S262144x64, .f32⟩
  | 83 => ⟨S1x64, .f32⟩
  | 84 => ⟨S262144x64, .f32⟩
  | 85 => ⟨S262144x64, .f32⟩
  | 86 => ⟨S_, .f32⟩
  | 87 => ⟨S262144x64, .f32⟩
  | 88 => ⟨S262144x64, .f32⟩
  | 89 => ⟨S64x64, .f32⟩
  | 90 => ⟨S262144x64, .f32⟩
  | 91 => ⟨S_, .f32⟩
  | 92 => ⟨S_, .f32⟩
  | 93 => ⟨S_, .f32⟩
  | 94 => ⟨S_, .f32⟩
  | 95 => ⟨S262144x64, .f32⟩
  | 96 => ⟨S262144x64, .f32⟩
  | 97 => ⟨S_, .f32⟩
  | 98 => ⟨S64, .f32⟩
  | 99 => ⟨S64, .f32⟩
  | 100 => ⟨S64, .f32⟩
  | 101 => ⟨S1x64, .f32⟩
  | 102 => ⟨S262144x64, .f32⟩
  | 103 => ⟨S262144x64, .f32⟩
  | 104 => ⟨S262144x64, .f32⟩
  | 105 => ⟨S262144x64, .f32⟩
  | 106 => ⟨S262144x64, .f32⟩
  | 107 => ⟨S_, .f32⟩
  | 108 => ⟨S64, .f32⟩
  | 109 => ⟨S64, .f32⟩
  | 110 => ⟨S64, .f32⟩
  | 111 => ⟨S1x64, .f32⟩
  | 112 => ⟨S262144x64, .f32⟩
  | 113 => ⟨S262144x64, .f32⟩
  | 114 => ⟨S_, .f32⟩
  | 115 => ⟨S64, .f32⟩
  | 116 => ⟨S64, .f32⟩
  | 117 => ⟨S64, .f32⟩
  | 118 => ⟨S1x64, .f32⟩
  | 119 => ⟨S262144x64, .f32⟩
  | 120 => ⟨S262144x64, .f32⟩
  | 121 => ⟨S1x64, .f32⟩
  | 122 => ⟨S262144x64, .f32⟩
  | 123 => ⟨S262144x64, .f32⟩
  | 124 => ⟨S1x64, .f32⟩
  | 125 => ⟨S262144x64, .f32⟩
  | 126 => ⟨S262144x64, .f32⟩
  | 127 => ⟨S_, .f32⟩
  | _ => ⟨S16x256x64x2, .f32⟩

abbrev hbmTy0_1 (i : Nat) : BufTy := match i % 128 with
  | 0 => ⟨S262144x64, .f32⟩
  | 1 => ⟨S262144x64, .f32⟩
  | 2 => ⟨S64x64, .f32⟩
  | 3 => ⟨S262144x64, .f32⟩
  | 4 => ⟨S_, .f32⟩
  | 5 => ⟨S_, .f32⟩
  | 6 => ⟨S_, .f32⟩
  | 7 => ⟨S_, .f32⟩
  | 8 => ⟨S262144x64, .f32⟩
  | 9 => ⟨S262144x64, .f32⟩
  | 10 => ⟨S_, .f32⟩
  | 11 => ⟨S64, .f32⟩
  | 12 => ⟨S64, .f32⟩
  | 13 => ⟨S64, .f32⟩
  | 14 => ⟨S1x64, .f32⟩
  | 15 => ⟨S262144x64, .f32⟩
  | 16 => ⟨S262144x64, .f32⟩
  | 17 => ⟨S262144x64, .f32⟩
  | 18 => ⟨S262144x64, .f32⟩
  | 19 => ⟨S262144x64, .f32⟩
  | 20 => ⟨S_, .f32⟩
  | 21 => ⟨S64, .f32⟩
  | 22 => ⟨S64, .f32⟩
  | 23 => ⟨S64, .f32⟩
  | 24 => ⟨S1x64, .f32⟩
  | 25 => ⟨S262144x64, .f32⟩
  | 26 => ⟨S262144x64, .f32⟩
  | 27 => ⟨S_, .f32⟩
  | 28 => ⟨S64, .f32⟩
  | 29 => ⟨S64, .f32⟩
  | 30 => ⟨S64, .f32⟩
  | 31 => ⟨S1x64, .f32⟩
  | 32 => ⟨S262144x64, .f32⟩
  | 33 => ⟨S262144x64, .f32⟩
  | 34 => ⟨S1x64, .f32⟩
  | 35 => ⟨S262144x64, .f32⟩
  | 36 => ⟨S262144x64, .f32⟩
  | 37 => ⟨S1x64, .f32⟩
  | 38 => ⟨S262144x64, .f32⟩
  | 39 => ⟨S262144x64, .f32⟩
  | 40 => ⟨S_, .f32⟩
  | 41 => ⟨S262144x64, .f32⟩
  | 42 => ⟨S262144x64, .f32⟩
  | 43 => ⟨S262144x64, .f32⟩
  | 44 => ⟨S262144x64, .f32⟩
  | 45 => ⟨S16x256x64x64, .f32⟩
  | 46 => ⟨S_, .f32⟩
  | 47 => ⟨S16x256x64, .f32⟩
  | 48 => ⟨S16x256x1x64, .f32⟩
  | 49 => ⟨S16x256x64x64, .f32⟩
  | 50 => ⟨S16x256x64x128, .f32⟩
  | 51 => ⟨S262144x128, .f32⟩
  | 52 => ⟨S128x64, .f32⟩
  | 53 => ⟨S262144x64, .f32⟩
  | 54 => ⟨S_, .f32⟩
  | 55 => ⟨S_, .f32⟩
  | 56 => ⟨S_, .f32⟩
  | 57 => ⟨S_, .f32⟩
  | 58 => ⟨S262144x64, .f32⟩
  | 59 => ⟨S262144x64, .f32⟩
  | 60 => ⟨S_, .f32⟩
  | 61 => ⟨S64, .f32⟩
  | 62 => ⟨S64, .f32⟩
  | 63 => ⟨S64, .f32⟩
  | 64 => ⟨S1x64, .f32⟩
  | 65 => ⟨S262144x64, .f32⟩
  | 66 => ⟨S262144x64, .f32⟩
  | 67 => ⟨S262144x64, .f32⟩
  | 68 => ⟨S262144x64, .f32⟩
  | 69 => ⟨S262144x64, .f32⟩
  | 70 => ⟨S_, .f32⟩
  | 71 => ⟨S64, .f32⟩
  | 72 => ⟨S64, .f32⟩
  | 73 => ⟨S64, .f32⟩
  | 74 => ⟨S1x64, .f32⟩
  | 75 => ⟨S262144x64, .f32⟩
  | 76 => ⟨S262144x64, .f32⟩
  | 77 => ⟨S_, .f32⟩
  | 78 => ⟨S64, .f32⟩
  | 79 => ⟨S64, .f32⟩
  | 80 => ⟨S64, .f32⟩
  | 81 => ⟨S1x64, .f32⟩
  | 82 => ⟨S262144x64, .f32⟩
  | 83 => ⟨S262144x64, .f32⟩
  | 84 => ⟨S1x64, .f32⟩
  | 85 => ⟨S262144x64, .f32⟩
  | 86 => ⟨S262144x64, .f32⟩
  | 87 => ⟨S1x64, .f32⟩
  | 88 => ⟨S262144x64, .f32⟩
  | 89 => ⟨S262144x64, .f32⟩
  | 90 => ⟨S_, .f32⟩
  | 91 => ⟨S262144x64, .f32⟩
  | 92 => ⟨S262144x64, .f32⟩
  | 93 => ⟨S64x64, .f32⟩
  | 94 => ⟨S262144x64, .f32⟩
  | 95 => ⟨S_, .f32⟩
  | 96 => ⟨S_, .f32⟩
  | 97 => ⟨S_, .f32⟩
  | 98 => ⟨S_, .f32⟩
  | 99 => ⟨S262144x64, .f32⟩
  | 100 => ⟨S262144x64, .f32⟩
  | 101 => ⟨S_, .f32⟩
  | 102 => ⟨S64, .f32⟩
  | 103 => ⟨S64, .f32⟩
  | 104 => ⟨S64, .f32⟩
  | 105 => ⟨S1x64, .f32⟩
  | 106 => ⟨S262144x64, .f32⟩
  | 107 => ⟨S262144x64, .f32⟩
  | 108 => ⟨S262144x64, .f32⟩
  | 109 => ⟨S262144x64, .f32⟩
  | 110 => ⟨S262144x64, .f32⟩
  | 111 => ⟨S_, .f32⟩
  | 112 => ⟨S64, .f32⟩
  | 113 => ⟨S64, .f32⟩
  | 114 => ⟨S64, .f32⟩
  | 115 => ⟨S1x64, .f32⟩
  | 116 => ⟨S262144x64, .f32⟩
  | 117 => ⟨S262144x64, .f32⟩
  | 118 => ⟨S_, .f32⟩
  | 119 => ⟨S64, .f32⟩
  | 120 => ⟨S64, .f32⟩
  | 121 => ⟨S64, .f32⟩
  | 122 => ⟨S1x64, .f32⟩
  | 123 => ⟨S262144x64, .f32⟩
  | 124 => ⟨S262144x64, .f32⟩
  | 125 => ⟨S1x64, .f32⟩
  | 126 => ⟨S262144x64, .f32⟩
  | 127 => ⟨S262144x64, .f32⟩
  | _ => ⟨S16x256x64x2, .f32⟩

abbrev hbmTy0_2 (i : Nat) : BufTy := match i % 128 with
  | 0 => ⟨S1x64, .f32⟩
  | 1 => ⟨S262144x64, .f32⟩
  | 2 => ⟨S262144x64, .f32⟩
  | 3 => ⟨S_, .f32⟩
  | 4 => ⟨S262144x64, .f32⟩
  | 5 => ⟨S262144x64, .f32⟩
  | 6 => ⟨S262144x64, .f32⟩
  | 7 => ⟨S262144x64, .f32⟩
  | 8 => ⟨S16x256x64x64, .f32⟩
  | 9 => ⟨S_, .f32⟩
  | 10 => ⟨S16x256x64, .f32⟩
  | 11 => ⟨S16x256, .i1⟩
  | 12 => ⟨S16x256, .f32⟩
  | 13 => ⟨S4096x1, .f32⟩
  | 14 => ⟨S4096x64, .f32⟩
  | 15 => ⟨S64x64, .f32⟩
  | 16 => ⟨S4096x64, .f32⟩
  | 17 => ⟨S1x64, .f32⟩
  | 18 => ⟨S4096x64, .f32⟩
  | 19 => ⟨S4096x64, .f32⟩
  | 20 => ⟨S_, .f32⟩
  | 21 => ⟨S4096x64, .f32⟩
  | 22 => ⟨S4096x64, .f32⟩
  | 23 => ⟨S64x64, .f32⟩
  | 24 => ⟨S4096x64, .f32⟩
  | 25 => ⟨S1x64, .f32⟩
  | 26 => ⟨S4096x64, .f32⟩
  | 27 => ⟨S4096x64, .f32⟩
  | 28 => ⟨S4096x64, .f32⟩
  | 29 => ⟨S4096x64, .f32⟩
  | 30 => ⟨S16x256x64, .f32⟩
  | _ => ⟨S16x256x64x2, .f32⟩

abbrev hbmTy (i : Nat) : BufTy := match i / 128 with
  | 0 => hbmTy0_0 i
  | 1 => hbmTy0_1 i
  | 2 => hbmTy0_2 i
  | _ => ⟨S16x256x64x2, .f32⟩

abbrev bufTy : (tb : Table) → Fin (tcTables nBuf tb) → BufTy
  | .hbm, ⟨i, _⟩ => hbmTy i
  | _, _ => ⟨S16x256x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_0 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_3 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call0_cst : Ref sig .tc := ⟨.hbm, 86, rfl⟩
abbrev main_call0_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_5 : Ref sig .tc := ⟨.hbm, 91, rfl⟩
abbrev main_v60 : Ref sig .tc := ⟨.hbm, 92, rfl⟩
abbrev main_cst_6 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_7 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_8 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_9 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call1_cst : Ref sig .tc := ⟨.hbm, 127, rfl⟩
abbrev main_call1_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_10 : Ref sig .tc := ⟨.hbm, 132, rfl⟩
abbrev main_v94 : Ref sig .tc := ⟨.hbm, 133, rfl⟩
abbrev main_cst_11 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_12 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_13 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_14 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_call2_cst : Ref sig .tc := ⟨.hbm, 168, rfl⟩
abbrev main_call2_v0 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_15 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_16 : Ref sig .tc := ⟨.hbm, 182, rfl⟩
abbrev main_v136 : Ref sig .tc := ⟨.hbm, 183, rfl⟩
abbrev main_cst_17 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_18 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_19 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_20 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_call3_cst : Ref sig .tc := ⟨.hbm, 218, rfl⟩
abbrev main_call3_v0 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_21 : Ref sig .tc := ⟨.hbm, 223, rfl⟩
abbrev main_v170 : Ref sig .tc := ⟨.hbm, 224, rfl⟩
abbrev main_cst_22 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_23 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_24 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_cst_25 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_call4_cst : Ref sig .tc := ⟨.hbm, 259, rfl⟩
abbrev main_call4_v0 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_26 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_call5_cst : Ref sig .tc := ⟨.hbm, 276, rfl⟩
abbrev main_call5_v0 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩

abbrev nD : Nat := 1
abbrev τ : Topo := Topo.v7x

variable {F : FTy → Type} [FloatOps F]
-- ==== Proof.Math.Column.lean ====
/- One column of a masked batch normalisation over the extended reals: the affine form the kernel applies equals
   the centred and divided form of the reference. -/
module

public import Idealize.ShloMosaic.Lib.Pointwise
public import Idealize.ShloMosaic.Lib.IdealHost

@[expose] public section

noncomputable section

namespace Cert.Net

open Idealize.ShloMosaic

/-- An extended real that is a real number. -/
def IsFin (x : EReal) : Prop := ∃ r : ℝ, x = (r : EReal)

/-- A real number is real. -/
theorem IsFin.coe (r : ℝ) : IsFin (r : EReal) := ⟨r, rfl⟩
/-- Zero is real. -/
theorem IsFin.zero : IsFin 0 := ⟨0, rfl⟩
/-- A sum of two reals is real. -/
theorem IsFin.add {x y : EReal} (hx : IsFin x) (hy : IsFin y) : IsFin (x + y) := by
  obtain ⟨a, rfl⟩ := hx; obtain ⟨b, rfl⟩ := hy; exact ⟨a + b, (EReal.coe_add a b).symm⟩
/-- A difference of two reals is real. -/
theorem IsFin.sub {x y : EReal} (hx : IsFin x) (hy : IsFin y) : IsFin (x - y) := by
  obtain ⟨a, rfl⟩ := hx; obtain ⟨b, rfl⟩ := hy; exact ⟨a - b, (EReal.coe_sub a b).symm⟩
/-- A product of two reals is real. -/
theorem IsFin.mul {x y : EReal} (hx : IsFin x) (hy : IsFin y) : IsFin (x * y) := by
  obtain ⟨a, rfl⟩ := hx; obtain ⟨b, rfl⟩ := hy; exact ⟨a * b, (EReal.coe_mul a b).symm⟩
/-- The larger of two reals is real. -/
theorem IsFin.max {x y : EReal} (hx : IsFin x) (hy : IsFin y) : IsFin (Max.max x y) := by
  rcases max_choice x y with h | h <;> rw [h] <;> assumption
/-- A sum of reals is real. -/
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))
/-- The direction of two reals is real. -/
theorem IsFin.atan2 {x y : EReal} (hx : IsFin x) (hy : IsFin y) : IsFin (Ideal.atan2 x y) := by
  obtain ⟨a, rfl⟩ := hx; obtain ⟨b, rfl⟩ := hy; exact ⟨_, rfl⟩

/-- A mask weight: zero or one. -/
def IsBit (x : EReal) : Prop := x = 0 ∨ x = 1

/-- A mask weight is real. -/
theorem IsBit.fin {x : EReal} (h : IsBit x) : IsFin x := by
  rcases h with rfl | rfl
  · exact IsFin.zero
  · exact ⟨1, rfl⟩

/-- A sum of reals is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real is the quotient among the reals. -/
theorem div_coe (a c : ℝ) (hc : c ≠ 0) : Ideal.div (a : EReal) (c : EReal) = ((a / c : ℝ) : EReal) := by
  have h : (c : EReal) ≠ 0 := by exact_mod_cast hc
  unfold Ideal.div
  rw [if_neg h, ← EReal.coe_inv, ← EReal.coe_mul, div_eq_mul_inv]

/-- The root of a positive real is the root among the reals. -/
theorem sqrt_coe (a : ℝ) (ha : 0 < a) : Ideal.sqrt (a : EReal) = ((Real.sqrt a : ℝ) : EReal) := by
  show (if a < 0 then ⊥ else (Real.sqrt a : EReal)) = _
  rw [if_neg (not_lt.2 ha.le)]

/-- The inverse root of a positive real is the one among the reals. -/
theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.2 ha.le), if_neg ha.ne']

/-- The small constant added to a variance. -/
def eps : EReal := Ideal.ofBits .f32 0x3727C5AC#32

/-- The small constant is a positive real. -/
theorem eps_pos : ∃ e : ℝ, 0 < e ∧ eps = (e : EReal) := by
  refine ⟨(10995116 : ℝ) * 2 ^ (-40 : ℤ), by positivity, ?_⟩
  unfold eps
  simp [Ideal.ofBits, Ideal.ieee, -EReal.coe_mul]

variable {ι : Type*} [Fintype ι]

/-- The number of rows that count, at least one. -/
def cnt (v : ι → EReal) : EReal := max (∑ r, v r) 1

/-- The mean over the rows that count. -/
def mean (v h : ι → EReal) : EReal := Ideal.div (∑ r, h r * v r) (cnt v)

/-- The variance over the rows that count: the mean of the squared distances. -/
def var (v h : ι → EReal) : EReal := Ideal.div (∑ r, ((h r - mean v h) * (h r - mean v h)) * v r) (cnt v)

/-- The masked batch normalisation of row `r` of one column. -/
def bn (v h : ι → EReal) (g b : EReal) (r : ι) : EReal :=
  Ideal.div (h r - mean v h) (Ideal.sqrt (var v h + eps)) * g + b

/-- The factor of the affine form, from the two sums. -/
def affA (s q c g : EReal) : EReal := g * Ideal.rsqrt (Ideal.div q c - Ideal.div s c * Ideal.div s c + eps)

/-- The offset of the affine form. -/
def affD (s q c g b : EReal) : EReal := b - Ideal.div s c * affA s q c g

/-- Over the reals: the mean of squares less the square of the mean is the mean of the squared distances. -/
theorem var_real (v h : ι → ℝ) (hv : ∀ r, v r = 0 ∨ v r = 1) (c μ : ℝ) (hc : c = max (∑ r, v r) 1)
    (hμ : μ = (∑ r, h r * v r) / c) :
    (∑ r, ((h r - μ) * (h r - μ)) * v r) / c = (∑ r, (h r * h r) * v r) / c - μ * μ := by
  have hexp : ∑ r, ((h r - μ) * (h r - μ)) * v r
      = ∑ r, (h r * h r) * v r - 2 * μ * ∑ r, h r * v r + μ * μ * ∑ r, v r := by
    rw [Finset.mul_sum, Finset.mul_sum, ← Finset.sum_sub_distrib, ← Finset.sum_add_distrib]
    exact Finset.sum_congr rfl fun r _ => by ring
  have hc1 : 1 ≤ c := hc ▸ le_max_right _ _
  have hc0 : c ≠ 0 := by linarith
  by_cases h0 : ∀ r, v r = 0
  · have e1 : ∑ r, h r * v r = 0 := Finset.sum_eq_zero fun r _ => by rw [h0 r, mul_zero]
    have e2 : ∑ r, (h r * h r) * v r = 0 := Finset.sum_eq_zero fun r _ => by rw [h0 r, mul_zero]
    have e3 : ∑ r, v r = 0 := Finset.sum_eq_zero fun r _ => h0 r
    rw [e1, zero_div] at hμ
    rw [hexp, e1, e2, e3, hμ]; simp
  · obtain ⟨r0, hr0⟩ := not_forall.1 h0
    have h1 : v r0 = 1 := (hv r0).resolve_left hr0
    have hge : 1 ≤ ∑ r, v r := by
      rw [← h1]
      exact Finset.single_le_sum (f := v) (fun r _ => by rcases hv r with h | h <;> rw [h] <;> norm_num) (Finset.mem_univ r0)
    have hcs : c = ∑ r, v r := by rw [hc, max_eq_left hge]
    have hs : ∑ r, h r * v r = μ * c := by rw [hμ, div_mul_cancel₀ _ hc0]
    rw [hexp, hs, ← hcs]
    field_simp
    ring

/-- Over the reals, a mean of squared distances is not negative. -/
theorem var_real_nonneg (v h : ι → ℝ) (hv : ∀ r, v r = 0 ∨ v r = 1) (c μ : ℝ) (hc : 0 < c) :
    0 ≤ (∑ r, ((h r - μ) * (h r - μ)) * v r) / c :=
  div_nonneg (Finset.sum_nonneg fun r _ => mul_nonneg (mul_self_nonneg _)
    (by rcases hv r with h | h <;> rw [h] <;> norm_num)) hc.le

/-- What the proof of the column lemma and of its finiteness share: every quantity as a real number. -/
theorem col_reals (v h : ι → EReal) (hv : ∀ r, IsBit (v r)) (hh : ∀ r, IsFin (h r)) :
    ∃ (c μ w : ℝ), 0 < c ∧ 0 ≤ w ∧ cnt v = (c : EReal) ∧ mean v h = (μ : EReal) ∧ var v h = (w : EReal)
      ∧ Ideal.div (∑ r, (h r * h r) * v r) (cnt v) - mean v h * mean v h = (w : EReal) := by
  choose h' hh' using hh
  have hv1 : ∀ r, ∃ x : ℝ, (x = 0 ∨ x = 1) ∧ v r = (x : EReal) := fun r => by
    rcases hv r with e | e
    · exact ⟨0, .inl rfl, by rw [e]; rfl⟩
    · exact ⟨1, .inr rfl, by rw [e]; rfl⟩
  choose v' hv01 hv' using hv1
  obtain rfl : v = fun r => (v' r : EReal) := funext hv'
  obtain rfl : h = fun r => (h' r : EReal) := funext hh'
  obtain ⟨c, hc⟩ : ∃ c : ℝ, c = max (∑ r, v' r) 1 := ⟨_, rfl⟩
  obtain ⟨μ, hμ⟩ : ∃ μ : ℝ, μ = (∑ r, h' r * v' r) / c := ⟨_, rfl⟩
  have hc1 : 1 ≤ c := hc ▸ le_max_right _ _
  have hc0 : c ≠ 0 := by linarith
  have ec : cnt (fun r => (v' r : EReal)) = (c : EReal) := by
    rw [hc, cnt, ← coe_sum, (EReal.coe_strictMono.monotone).map_max]; rfl
  have em : mean (fun r => (v' r : EReal)) (fun r => (h' r : EReal)) = (μ : EReal) := by
    rw [mean, ec, hμ, ← div_coe _ _ hc0, coe_sum]
    simp only [EReal.coe_mul]
  have ev : var (fun r => (v' r : EReal)) (fun r => (h' r : EReal))
      = (((∑ r, ((h' r - μ) * (h' r - μ)) * v' r) / c : ℝ) : EReal) := by
    rw [var, ec, em, ← div_coe _ _ hc0, coe_sum]
    simp only [EReal.coe_mul, EReal.coe_sub]
  refine ⟨c, μ, _, by linarith, var_real_nonneg v' h' hv01 c μ (by linarith), ec, em, ev, ?_⟩
  rw [var_real v' h' hv01 c μ hc hμ, ec, em, EReal.coe_sub, ← div_coe _ _ hc0, coe_sum]
  simp only [EReal.coe_mul]

/-- THE COLUMN LEMMA: for finite values and a finite factor the affine form is the batch normalisation, whatever the offset. -/
theorem affine_eq_bn (v h : ι → EReal) (g b : EReal) (hv : ∀ r, IsBit (v r)) (hh : ∀ r, IsFin (h r)) (hg : IsFin g)
    (r : ι) :
    h r * affA (∑ r, h r * v r) (∑ r, (h r * h r) * v r) (cnt v) g + affD (∑ r, h r * v r) (∑ r, (h r * h r) * v r) (cnt v) g b
      = bn v h g b r := by
  obtain ⟨c, μ, w, hc, hw, ec, em, ev, ek⟩ := col_reals v h hv hh
  obtain ⟨e, he, ee⟩ := eps_pos
  obtain ⟨g', rfl⟩ := hg
  obtain ⟨x, hx⟩ := hh r
  have hpos : 0 < w + e := by linarith
  have hA : affA (∑ r, h r * v r) (∑ r, (h r * h r) * v r) (cnt v) (g' : EReal) = ((g' * (Real.sqrt (w + e))⁻¹ : ℝ) : EReal) := by
    unfold affA
    rw [show Ideal.div (∑ r, h r * v r) (cnt v) = mean v h from rfl, ek, ee, ← EReal.coe_add, rsqrt_coe _ hpos, ← EReal.coe_mul]
  have hs : Real.sqrt (w + e) ≠ 0 := (Real.sqrt_pos.2 hpos).ne'
  unfold affD bn
  rw [hA, show Ideal.div (∑ r, h r * v r) (cnt v) = mean v h from rfl, em, ev, ee, ← EReal.coe_add, sqrt_coe _ hpos, hx,
    ← EReal.coe_mul, ← EReal.coe_mul, ← EReal.coe_sub, div_coe _ _ hs, ← EReal.coe_mul]
  induction b with
  | bot => simp
  | top => rw [EReal.top_sub_coe, EReal.coe_add_top, EReal.coe_add_top]
  | coe b =>
    rw [← EReal.coe_sub, ← EReal.coe_add, ← EReal.coe_add]
    congr 1
    field_simp
    ring

/-- The batch normalisation of finite values with finite factor and offset is finite. -/
theorem bn_fin (v h : ι → EReal) (g b : EReal) (hv : ∀ r, IsBit (v r)) (hh : ∀ r, IsFin (h r)) (hg : IsFin g) (hb : IsFin b)
    (r : ι) : IsFin (bn v h g b r) := by
  obtain ⟨c, μ, w, hc, hw, ec, em, ev, ek⟩ := col_reals v h hv hh
  obtain ⟨e, he, ee⟩ := eps_pos
  obtain ⟨x, hx⟩ := hh r
  have hpos : 0 < w + e := by linarith
  have hs : Real.sqrt (w + e) ≠ 0 := (Real.sqrt_pos.2 hpos).ne'
  unfold bn
  rw [em, ev, ee, ← EReal.coe_add, sqrt_coe _ hpos, hx, ← EReal.coe_sub, div_coe _ _ hs]
  exact ((IsFin.coe _).mul hg).add hb

end Cert.Net

end
-- ==== Proof.Math.Spec.lean ====
/- The network as functions of rows and columns: what the reference computes, and which of its values are real. -/
module

public import proofs.«01_k».proof.Proof.Math.Column

@[expose] public section

noncomputable section

namespace Cert.Net

open Idealize.ShloMosaic

/-- The inputs of the network, as functions of rows and columns. -/
structure Params where
  /-- which rows count -/
  v : Fin 262144 → EReal
  /-- which lanes count -/
  u : Fin 4096 → EReal
  /-- the features of a row -/
  x : Fin 262144 → Fin 5 → EReal
  w0 : Fin 64 → Fin 5 → EReal
  w1 : Fin 64 → Fin 64 → EReal
  w2 : Fin 64 → Fin 64 → EReal
  w3 : Fin 64 → Fin 128 → EReal
  w4 : Fin 64 → Fin 64 → EReal
  o0 : Fin 64 → Fin 64 → EReal
  o1 : Fin 64 → Fin 64 → EReal
  g0 : Fin 64 → EReal
  b0 : Fin 64 → EReal
  g1 : Fin 64 → EReal
  b1 : Fin 64 → EReal
  g2 : Fin 64 → EReal
  b2 : Fin 64 → EReal
  g3 : Fin 64 → EReal
  b3 : Fin 64 → EReal
  g4 : Fin 64 → EReal
  b4 : Fin 64 → EReal
  c0 : Fin 64 → EReal
  c1 : Fin 64 → EReal

/-- Rows times the transposed weights. -/
def lin {ι : Type*} {K : ℕ} (x : ι → Fin K → EReal) (w : Fin 64 → Fin K → EReal) (r : ι) (c : Fin 64) : EReal := ∑ k, x r k * w c k

/-- The normalised and rectified layer. -/
def act {ι : Type*} [Fintype ι] (v : ι → EReal) (h : ι → Fin 64 → EReal) (g b : Fin 64 → EReal) (r : ι) (c : Fin 64) : EReal :=
  max (bn v (fun r => h r c) (g c) (b c) r) 0

/-- The rows that count, the others at zero. -/
def msk (v : Fin 262144 → EReal) (x : Fin 262144 → Fin 64 → EReal) (r : Fin 262144) (c : Fin 64) : EReal := x r c * v r

/-- The maximum over a lane's 64 rows. -/
def pool (f : Fin 262144 → Fin 64 → EReal) (l : Fin 4096) (c : Fin 64) : EReal :=
  Finset.univ.fold max ⊥ fun i : Fin 64 => f ⟨l.val * 64 + i.val, by have := l.isLt; omega⟩ c

/-- A row's features beside its lane's maxima. -/
def cat (f : Fin 262144 → Fin 64 → EReal) (r : Fin 262144) (k : Fin 128) : EReal :=
  if h : k.val < 64 then f r ⟨k.val, h⟩ else pool f ⟨r.val / 64, by have := r.isLt; omega⟩ ⟨k.val - 64, by have := k.isLt; omega⟩

namespace Params
variable (P : Params)

/-- The first layer's products. -/
def h0 := lin P.x P.w0
/-- The first layer, normalised and rectified. -/
def x1 := act P.v P.h0 P.g0 P.b0
/-- The second layer's products. -/
def h1 := lin P.x1 P.w1
/-- The second layer, normalised and rectified. -/
def x2 := act P.v P.h1 P.g1 P.b1
/-- The third layer's products. -/
def h2 := lin P.x2 P.w2
/-- The third layer, normalised and rectified. -/
def x3 := act P.v P.h2 P.g2 P.b2
/-- The third layer with the rows that do not count at zero. -/
def f3 := msk P.v P.x3
/-- The fourth layer's products. They are taken over the features beside the lane's maxima. -/
def h3 := lin (cat P.f3) P.w3
/-- The fourth layer, normalised and rectified. -/
def x4 := act P.v P.h3 P.g3 P.b3
/-- The fifth layer's products. -/
def h4 := lin P.x4 P.w4
/-- The fifth layer, normalised and rectified. -/
def x5 := act P.v P.h4 P.g4 P.b4
/-- The fifth layer with the rows that do not count at zero. -/
def f5 := msk P.v P.x5
/-- The first output layer. -/
def y0 (l : Fin 4096) (c : Fin 64) : EReal := max (lin (pool P.f5) P.o0 l c + P.c0 c) 0
/-- The result. -/
def y (l : Fin 4096) (c : Fin 64) : EReal := (lin P.y0 P.o1 l c + P.c1 c) * P.u l

/-- What is asked of the inputs: the mask holds zeros and ones, and what reaches a variance is real. -/
structure Ok : Prop where
  v : ∀ r, IsBit (P.v r)
  x : ∀ r k, IsFin (P.x r k)
  w0 : ∀ c k, IsFin (P.w0 c k)
  w1 : ∀ c k, IsFin (P.w1 c k)
  w2 : ∀ c k, IsFin (P.w2 c k)
  w3 : ∀ c k, IsFin (P.w3 c k)
  w4 : ∀ c k, IsFin (P.w4 c k)
  g0 : ∀ c, IsFin (P.g0 c)
  g1 : ∀ c, IsFin (P.g1 c)
  g2 : ∀ c, IsFin (P.g2 c)
  g3 : ∀ c, IsFin (P.g3 c)
  g4 : ∀ c, IsFin (P.g4 c)
  b0 : ∀ c, IsFin (P.b0 c)
  b1 : ∀ c, IsFin (P.b1 c)
  b2 : ∀ c, IsFin (P.b2 c)
  b3 : ∀ c, IsFin (P.b3 c)

end Params

/-- Real rows times real weights are real. -/
theorem lin_fin {ι : Type*} {K : ℕ} (x : ι → Fin K → EReal) (w : Fin 64 → Fin K → EReal) (hx : ∀ r k, IsFin (x r k)) (hw : ∀ c k, IsFin (w c k))
    (r : ι) (c : Fin 64) : IsFin (lin x w r c) := IsFin.sum _ _ fun k _ => (hx r k).mul (hw c k)

/-- The normalised and rectified layer is real where its products, factor and offset are. -/
theorem act_fin {ι : Type*} [Fintype ι] (v : ι → EReal) (h : ι → Fin 64 → EReal) (g b : Fin 64 → EReal) (hv : ∀ r, IsBit (v r))
    (hh : ∀ r c, IsFin (h r c)) (hg : ∀ c, IsFin (g c)) (hb : ∀ c, IsFin (b c)) (r : ι) (c : Fin 64) : IsFin (act v h g b r c) :=
  (bn_fin v _ _ _ hv (fun r => hh r c) (hg c) (hb c) r).max IsFin.zero

/-- A masked real layer is real. -/
theorem msk_fin (v : Fin 262144 → EReal) (x : Fin 262144 → Fin 64 → EReal) (hv : ∀ r, IsBit (v r)) (hx : ∀ r c, IsFin (x r c))
    (r : Fin 262144) (c : Fin 64) : IsFin (msk v x r c) := (hx r c).mul (hv r).fin

/-- A maximum of finitely many reals, at least one of them, is real. -/
theorem fold_fin (f : Fin 64 → EReal) (h : ∀ i, IsFin (f i)) : IsFin (Finset.univ.fold max ⊥ f) := by
  have key : ∀ s : Finset (Fin 64), s.fold max ⊥ f = ⊥ ∧ s = ∅ ∨ IsFin (s.fold max ⊥ f) := by
    intro s
    induction s using Finset.induction_on with
    | empty => exact Or.inl ⟨by simp, rfl⟩
    | insert a s ha ih =>
      right
      rw [Finset.fold_insert ha]
      rcases ih with ⟨h0, _⟩ | h1
      · rw [h0, max_bot_right]; exact h a
      · exact (h a).max h1
  rcases key Finset.univ with ⟨_, h0⟩ | h1
  · exact absurd h0 (Finset.univ_nonempty.ne_empty)
  · exact h1

/-- A lane's maxima of a real layer are real. -/
theorem pool_fin (f : Fin 262144 → Fin 64 → EReal) (h : ∀ r c, IsFin (f r c)) (l : Fin 4096) (c : Fin 64) : IsFin (pool f l c) :=
  fold_fin _ fun _ => h _ c

/-- A row's features beside its lane's maxima are real where the features are. -/
theorem cat_fin (f : Fin 262144 → Fin 64 → EReal) (h : ∀ r c, IsFin (f r c)) (r : Fin 262144) (k : Fin 128) : IsFin (cat f r k) := by
  unfold cat
  split
  · exact h _ _
  · exact pool_fin f h _ _

namespace Params.Ok
variable {P : Params} (o : P.Ok)
include o

/-- The first layer's products are real. -/
theorem h0_fin (r : Fin 262144) (c : Fin 64) : IsFin (P.h0 r c) := lin_fin _ _ o.x o.w0 r c
/-- The first layer, normalised and rectified, is real. -/
theorem x1_fin (r : Fin 262144) (c : Fin 64) : IsFin (P.x1 r c) := act_fin _ _ _ _ o.v o.h0_fin o.g0 o.b0 r c
/-- The second layer's products are real. -/
theorem h1_fin (r : Fin 262144) (c : Fin 64) : IsFin (P.h1 r c) := lin_fin _ _ o.x1_fin o.w1 r c
/-- The second layer, normalised and rectified, is real. -/
theorem x2_fin (r : Fin 262144) (c : Fin 64) : IsFin (P.x2 r c) := act_fin _ _ _ _ o.v o.h1_fin o.g1 o.b1 r c
/-- The third layer's products are real. -/
theorem h2_fin (r : Fin 262144) (c : Fin 64) : IsFin (P.h2 r c) := lin_fin _ _ o.x2_fin o.w2 r c
/-- The third layer, normalised and rectified, is real. -/
theorem x3_fin (r : Fin 262144) (c : Fin 64) : IsFin (P.x3 r c) := act_fin _ _ _ _ o.v o.h2_fin o.g2 o.b2 r c
/-- The masked third layer is real. -/
theorem f3_fin (r : Fin 262144) (c : Fin 64) : IsFin (P.f3 r c) := msk_fin _ _ o.v o.x3_fin r c
/-- The fourth layer's products are real. -/
theorem h3_fin (r : Fin 262144) (c : Fin 64) : IsFin (P.h3 r c) := lin_fin _ _ (cat_fin _ o.f3_fin) o.w3 r c
/-- The fourth layer, normalised and rectified, is real. -/
theorem x4_fin (r : Fin 262144) (c : Fin 64) : IsFin (P.x4 r c) := act_fin _ _ _ _ o.v o.h3_fin o.g3 o.b3 r c
/-- The fifth layer's products are real. -/
theorem h4_fin (r : Fin 262144) (c : Fin 64) : IsFin (P.h4 r c) := lin_fin _ _ o.x4_fin o.w4 r c

end Params.Ok

end Cert.Net

end
-- ==== Proof.Math.Packed.lean ====
/- Two halves of the rows side by side: what the packed arrays hold when their parts are the network's values. -/
module

public import proofs.«01_k».proof.Proof.Math.Spec
public import Idealize.ShloMosaic.Lib.Pipeline.ValueKit

@[expose] public section

noncomputable section

namespace Cert.Net

open Idealize.ShloMosaic

/-- Column `c` of half `p`. -/
def pk (p : Fin 2) (c : Fin 64) : Fin 128 := ⟨p.val * 64 + c.val, by have := p.isLt; have := c.isLt; omega⟩

/-- The row that half `p` holds at position `n`. -/
def rw2 (p : Fin 2) (n : Fin 131072) : Fin 262144 := ⟨p.val * 131072 + n.val, by have := p.isLt; have := n.isLt; omega⟩

/-- The lane that half `p` holds at position `g`. -/
def ln2 (p : Fin 2) (g : Fin 2048) : Fin 4096 := ⟨p.val * 2048 + g.val, by have := p.isLt; have := g.isLt; omega⟩

/-- A packed array of rows. -/
def Packs (Z : Fin 131072 → Fin 128 → EReal) (f : Fin 262144 → Fin 64 → EReal) : Prop := ∀ p n c, Z n (pk p c) = f (rw2 p n) c

/-- A packed array of lanes. -/
def PacksL (Z : Fin 2048 → Fin 128 → EReal) (f : Fin 4096 → Fin 64 → EReal) : Prop := ∀ p g c, Z g (pk p c) = f (ln2 p g) c

/-- The transposed weights twice on the diagonal. -/
def BDiag {L K : ℕ} (W : Fin L → Fin 128 → EReal) (w : Fin 64 → Fin K → EReal) : Prop :=
  ∀ (q p : Fin 2) (k : Fin K) (c : Fin 64) (h : q.val * K + k.val < L), W ⟨q.val * K + k.val, h⟩ (pk p c) = if q = p then w c k else 0

/-- A sum over both halves against a column that is zero outside one half. -/
theorem bd_sum {L K : ℕ} (hL : L = 2 * K) (p : Fin 2) (A B : Fin L → EReal) (a b : Fin K → EReal)
    (hA : ∀ (k : Fin K) (h : p.val * K + k.val < L), A ⟨p.val * K + k.val, h⟩ = a k)
    (hB : ∀ (q : Fin 2) (k : Fin K) (h : q.val * K + k.val < L), B ⟨q.val * K + k.val, h⟩ = if q = p then b k else 0) :
    ∑ l, A l * B l = ∑ k, a k * b k := by
  have lt : ∀ (q : Fin 2) (k : Fin K), q.val * K + k.val < L := fun q k => by
    have h1 := k.isLt
    have h2 : q.val * K ≤ 1 * K := Nat.mul_le_mul_right K (by have := q.isLt; omega)
    omega
  rw [← Fin.sum_mul_add_congr (S := 2) (n := K) (F := fun q k => A ⟨q.val * K + k.val, lt q k⟩ * B ⟨q.val * K + k.val, lt q k⟩)
    (f := fun l => A l * B l) (fun _ _ _ => rfl) hL, Finset.sum_eq_single p]
  · refine Finset.sum_congr rfl fun k _ => ?_
    rw [hA, hB, if_pos rfl]
  · intro q _ hq
    refine Finset.sum_eq_zero fun k _ => ?_
    rw [hB, if_neg hq, mul_zero]
  · intro h
    exact absurd (Finset.mem_univ p) h

/-- Packed rows times the doubled weights. -/
theorem hid_packs {ι : Type*} {Z : Fin 128 → EReal} {W : Fin 128 → Fin 128 → EReal} {w : Fin 64 → Fin 64 → EReal} (hW : BDiag W w)
    (x : ι → Fin 64 → EReal) (r : ι) (p : Fin 2) (hZ : ∀ k, Z (pk p k) = x r k) (c : Fin 64) :
    ∑ l, Z l * W l (pk p c) = lin x w r c :=
  bd_sum rfl p _ _ _ _ (fun k _ => hZ k) (fun q k h => hW q p k c h)

/-- Masked rows have masked products. -/
theorem lin_msk {ι : Type*} {K : ℕ} (x : ι → Fin K → EReal) (w : Fin 64 → Fin K → EReal) (v : ι → EReal) (hv : ∀ r, IsBit (v r)) (r : ι) (c : Fin 64) :
    lin (fun r k => x r k * v r) w r c = lin x w r c * v r := by
  unfold lin
  rcases hv r with h | h <;> simp [h]

/-- Both halves of a packed column's sum. -/
theorem col_sum {S : Fin 131072 → Fin 128 → EReal} {s : Fin 262144 → Fin 64 → EReal} (h : Packs S s) (c : Fin 64) :
    (∑ n, S n (pk 0 c)) + ∑ n, S n (pk 1 c) = ∑ r, s r c := by
  rw [← Fin.sum_mul_add_congr (S := 2) (n := 131072) (F := fun p n => S n (pk p c)) (f := fun r => s r c) (fun p n _ => h p n c) rfl, Fin.sum_univ_two]

/-- Squaring a masked number is masking its square. -/
theorem sq_bit (h v : EReal) (hv : IsBit v) : h * v * (h * v) = h * h * v := by
  rcases hv with rfl | rfl <;> simp

/-- A masked number times the number is the masked square. -/
theorem sq_bit' (h v : EReal) : h * v * h = h * h * v := by rw [mul_right_comm]

/-- One packed layer: the affine form, the rectifier and the mask give the masked layer of the network. -/
theorem lay_packs {v : Fin 262144 → EReal} (hv : ∀ r, IsBit (v r)) {h : Fin 262144 → Fin 64 → EReal} (hh : ∀ r c, IsFin (h r c))
    {g b : Fin 64 → EReal} (hg : ∀ c, IsFin (g c)) {Z H M : Fin 131072 → Fin 128 → EReal} {a d : Fin 128 → EReal}
    (hH : ∀ p n c, v (rw2 p n) = 1 → H n (pk p c) = h (rw2 p n) c)
    (hM : ∀ p n c, M n (pk p c) = v (rw2 p n))
    (ha : ∀ p c, a (pk p c) = affA (∑ r, h r c * v r) (∑ r, (h r c * h r c) * v r) (cnt v) (g c))
    (hd : ∀ p c, d (pk p c) = affD (∑ r, h r c * v r) (∑ r, (h r c * h r c) * v r) (cnt v) (g c) (b c))
    (hZ : ∀ n j, Z n j = max (H n j * a j + d j) 0 * M n j) :
    Packs Z (msk v (act v h g b)) := by
  intro p n c
  rw [hZ, hM]
  unfold msk
  rcases hv (rw2 p n) with e | e
  · rw [e, mul_zero, mul_zero]
  · rw [hH p n c e, ha, hd]
    unfold act
    rw [← affine_eq_bn v (fun r => h r c) (g c) (b c) hv (fun r => hh r c) (hg c) (rw2 p n)]

/-- The mask of both halves, spread over the lanes. -/
theorem mask_packs {v : Fin 262144 → EReal} {mp : Fin 2 → Fin 131072 → EReal} {e : Fin 2 → Fin 128 → EReal}
    (hm : ∀ p n, mp p n = v (rw2 p n)) (he : ∀ q p c, e q (pk p c) = if q = p then 1 else 0) (p : Fin 2) (n : Fin 131072) (c : Fin 64) :
    ∑ q, mp q n * e q (pk p c) = v (rw2 p n) := by
  rw [Finset.sum_eq_single p]
  · rw [he, if_pos rfl, mul_one, hm]
  · intro q _ hq
    rw [he, if_neg hq, mul_zero]
  · intro h
    exact absurd (Finset.mem_univ p) h

/-- The lanes' mask, spread likewise. -/
theorem maskL_packs {u : Fin 4096 → EReal} {mp : Fin 2 → Fin 2048 → EReal} {e : Fin 2 → Fin 128 → EReal}
    (hm : ∀ p g, mp p g = u (ln2 p g)) (he : ∀ q p c, e q (pk p c) = if q = p then 1 else 0) (p : Fin 2) (g : Fin 2048) (c : Fin 64) :
    ∑ q, mp q g * e q (pk p c) = u (ln2 p g) := by
  rw [Finset.sum_eq_single p]
  · rw [he, if_pos rfl, mul_one, hm]
  · intro q _ hq
    rw [he, if_neg hq, mul_zero]
  · intro h
    exact absurd (Finset.mem_univ p) h

/-- The number of valid rows from the two packed masks. -/
theorem cnt_packs {v : Fin 262144 → EReal} {mp : Fin 2 → Fin 131072 → EReal} (hm : ∀ p n, mp p n = v (rw2 p n)) :
    max (∑ n, ∑ q, mp q n) 1 = cnt v := by
  unfold cnt
  rw [Finset.sum_comm, Fin.sum_mul_add_congr (S := 2) (n := 131072) (F := fun p n => mp p n) (f := v) (fun p n _ => hm p n) rfl]

/-- The maxima of a packed array. -/
theorem pool_packs {Z : Fin 131072 → Fin 128 → EReal} {f : Fin 262144 → Fin 64 → EReal} (h : Packs Z f) (p : Fin 2) (g : Fin 2048) (c : Fin 64)
    (hlt : ∀ i : Fin 64, g.val * 64 + i.val < 131072) :
    (Finset.univ.fold max ⊥ fun i : Fin 64 => Z ⟨g.val * 64 + i.val, hlt i⟩ (pk p c)) = pool f (ln2 p g) c := by
  unfold pool
  refine Finset.fold_congr fun i _ => (h p _ c).trans (congrArg (fun r => f r c) (Fin.ext ?_))
  show p.val * 131072 + (g.val * 64 + i.val) = (p.val * 2048 + g.val) * 64 + i.val
  ring

/-- A sum over the features and the lane's maxima is the two sums. -/
theorem lin_cat (f : Fin 262144 → Fin 64 → EReal) (w : Fin 64 → Fin 128 → EReal) (r : Fin 262144) (c : Fin 64) :
    lin (cat f) w r c = (∑ k : Fin 64, f r k * w c ⟨k.val, by have := k.isLt; omega⟩)
      + ∑ k : Fin 64, pool f ⟨r.val / 64, by have := r.isLt; omega⟩ k * w c ⟨64 + k.val, by have := k.isLt; omega⟩ := by
  unfold lin
  rw [← Fin.sum_mul_add_congr (S := 2) (n := 64) (F := fun p k => cat f r ⟨p.val * 64 + k.val, by have := p.isLt; have := k.isLt; omega⟩
      * w c ⟨p.val * 64 + k.val, by have := p.isLt; have := k.isLt; omega⟩) (f := fun k => cat f r k * w c k) (fun _ _ _ => rfl) rfl, Fin.sum_univ_two]
  refine congrArg₂ (· + ·) ?_ ?_
  · refine Finset.sum_congr rfl fun k _ => ?_
    have e : (⟨(0 : Fin 2).val * 64 + k.val, by have := k.isLt; simp; omega⟩ : Fin 128) = ⟨k.val, by have := k.isLt; omega⟩ := Fin.ext (by simp)
    rw [e]
    unfold cat
    rw [dif_pos k.isLt]
  · refine Finset.sum_congr rfl fun k _ => ?_
    have e : (⟨(1 : Fin 2).val * 64 + k.val, by have := k.isLt; simp; omega⟩ : Fin 128) = ⟨64 + k.val, by have := k.isLt; omega⟩ := Fin.ext (by simp)
    rw [e]
    unfold cat
    rw [dif_neg (by simp)]
    congr 2
    exact Fin.ext (by simp)

/-- Packed rows beside their group's maxima, times the two doubled halves of the weights. -/
theorem hidCat_packs {Z : Fin 131072 → Fin 128 → EReal} {Q : Fin 2048 → Fin 128 → EReal} {f : Fin 262144 → Fin 64 → EReal}
    (hZ : Packs Z f) (hQ : PacksL Q (pool f)) {W1 W2 : Fin 128 → Fin 128 → EReal} {w : Fin 64 → Fin 128 → EReal}
    (h1 : BDiag W1 fun c (k : Fin 64) => w c ⟨k.val, by have := k.isLt; omega⟩) (h2 : BDiag W2 fun c (k : Fin 64) => w c ⟨64 + k.val, by have := k.isLt; omega⟩)
    (p : Fin 2) (n : Fin 131072) (c : Fin 64) (hn : n.val / 64 < 2048) :
    (∑ l, Z n l * W1 l (pk p c)) + ∑ l, Q ⟨n.val / 64, hn⟩ l * W2 l (pk p c) = lin (cat f) w (rw2 p n) c := by
  rw [lin_cat, hid_packs h1 f (rw2 p n) p (fun k => hZ p n k) c, hid_packs h2 (pool f) (ln2 p ⟨n.val / 64, hn⟩) p (fun k => hQ p _ k) c]
  have e : ln2 p ⟨n.val / 64, hn⟩ = ⟨(rw2 p n).val / 64, by have := (rw2 p n).isLt; omega⟩ := Fin.ext (by
    show p.val * 2048 + n.val / 64 = (p.val * 131072 + n.val) / 64
    omega)
  rw [e]
  rfl

end Cert.Net

end
-- ==== Proof.Math.Args.lean ====
/- The network's inputs as they stand in the argument arrays. -/
module

public import proofs.«01_k».proof.Proof.Math.Packed

@[expose] public section

noncomputable section

namespace Cert.Net

open Idealize.ShloMosaic

/-- A row's number of the batch. -/
def ra (r : Fin 262144) : Fin 16 := ⟨r.val / 16384, by have := r.isLt; omega⟩
/-- A row's lane within its batch. -/
def rb (r : Fin 262144) : Fin 256 := ⟨r.val / 64 % 256, by omega⟩
/-- A row's position within its lane. -/
def rc (r : Fin 262144) : Fin 64 := ⟨r.val % 64, by omega⟩
/-- A lane's number of the batch. -/
def la (l : Fin 4096) : Fin 16 := ⟨l.val / 256, by have := l.isLt; omega⟩
/-- A lane's place within its batch. -/
def lb (l : Fin 4096) : Fin 256 := ⟨l.val % 256, by omega⟩

/-- A mask's bit as a number: one where the mask is clear. -/
def bit (x : BitVec 1) : EReal := (FloatOps.uitofp (F := Ideal) .f32 (~~~ x) : EReal)

/-- An unsigned word as a number. -/
theorem uitofp_val {w : ℕ} (φ : FTy) (x : BitVec w) : (FloatOps.uitofp (F := Ideal) φ x : EReal) = ((x.toNat : ℝ) : EReal) := rfl

/-- The one bit as a number is one. -/
theorem uitofp_one (φ : FTy) : (FloatOps.uitofp (F := Ideal) φ 1#1 : EReal) = 1 := by rw [uitofp_val]; simp
/-- The zero bit as a number is zero. -/
theorem uitofp_zero (φ : FTy) : (FloatOps.uitofp (F := Ideal) φ 0#1 : EReal) = 0 := by rw [uitofp_val]; simp

/-- A mask's bit as a number is zero or one. -/
theorem bit_isBit (x : BitVec 1) : IsBit (bit x) := by
  unfold bit IsBit
  have h : x = 0#1 ∨ x = 1#1 := by
    have := x.isLt
    rcases Nat.lt_or_ge x.toNat 1 with h | h
    · exact Or.inl (BitVec.eq_of_toNat_eq (by simp; omega))
    · exact Or.inr (BitVec.eq_of_toNat_eq (by simp; omega))
  rcases h with rfl | rfl
  · right; exact uitofp_one _
  · left; exact uitofp_zero _

/-- The step from the position before, zero at a lane's first position. -/
def step (a0 : FVec Ideal ⟨4, ![16, 256, 64, 2]⟩ .f32) (a : Fin 16) (b : Fin 256) (i : Fin 64) (d : Fin 2) : EReal :=
  if h : i.val < 1 then (0 : EReal) else (a0 (ix4 a b i d) : EReal) - (a0 (ix4 a b ⟨i.val - 1, by have := i.isLt; omega⟩ d) : EReal)

/-- A row's five features: the step, its direction, and two of the lane's attributes. -/
def feat (a0 : FVec Ideal ⟨4, ![16, 256, 64, 2]⟩ .f32) (a1 : FVec Ideal ⟨3, ![16, 256, 3]⟩ .f32) (r : Fin 262144) : Fin 5 → EReal :=
  ![step a0 (ra r) (rb r) (rc r) 0, step a0 (ra r) (rb r) (rc r) 1,
    Ideal.atan2 (step a0 (ra r) (rb r) (rc r) 1) (step a0 (ra r) (rb r) (rc r) 0),
    (a1 (ix3 (ra r) (rb r) 0) : EReal), (a1 (ix3 (ra r) (rb r) 2) : EReal)]

/-- The inputs taken from the arrays. -/
def params (a0 : FVec Ideal ⟨4, ![16, 256, 64, 2]⟩ .f32) (a1 : FVec Ideal ⟨3, ![16, 256, 3]⟩ .f32)
    (a2 : IVec ⟨3, ![16, 256, 64]⟩ 1) (a3 : IVec ⟨2, ![16, 256]⟩ 1) (a4 : FVec Ideal ⟨2, ![64, 5]⟩ .f32) (a5 a6 : FVec Ideal ⟨1, ![64]⟩ .f32)
    (a7 : FVec Ideal ⟨2, ![64, 64]⟩ .f32) (a8 a9 : FVec Ideal ⟨1, ![64]⟩ .f32)
    (a10 : FVec Ideal ⟨2, ![64, 64]⟩ .f32) (a11 a12 : FVec Ideal ⟨1, ![64]⟩ .f32)
    (a13 : FVec Ideal ⟨2, ![64, 128]⟩ .f32) (a14 a15 : FVec Ideal ⟨1, ![64]⟩ .f32)
    (a16 : FVec Ideal ⟨2, ![64, 64]⟩ .f32) (a17 a18 : FVec Ideal ⟨1, ![64]⟩ .f32)
    (a19 : FVec Ideal ⟨2, ![64, 64]⟩ .f32) (a20 : FVec Ideal ⟨1, ![64]⟩ .f32)
    (a21 : FVec Ideal ⟨2, ![64, 64]⟩ .f32) (a22 : FVec Ideal ⟨1, ![64]⟩ .f32) : Params where
  v r := bit (a2 (ix3 (ra r) (rb r) (rc r)))
  u l := bit (a3 (ix2 (la l) (lb l)))
  x := feat a0 a1
  w0 c k := a4 (ix2 c k)
  w1 c k := a7 (ix2 c k)
  w2 c k := a10 (ix2 c k)
  w3 c k := a13 (ix2 c k)
  w4 c k := a16 (ix2 c k)
  o0 c k := a19 (ix2 c k)
  o1 c k := a21 (ix2 c k)
  g0 c := a5 (ix1 c)
  b0 c := a6 (ix1 c)
  g1 c := a8 (ix1 c)
  b1 c := a9 (ix1 c)
  g2 c := a11 (ix1 c)
  b2 c := a12 (ix1 c)
  g3 c := a14 (ix1 c)
  b3 c := a15 (ix1 c)
  g4 c := a17 (ix1 c)
  b4 c := a18 (ix1 c)
  c0 c := a20 (ix1 c)
  c1 c := a22 (ix1 c)

end Cert.Net

end
-- ==== Proof.RefA.lean ====
/- What the reference's arrays hold, entry by entry. -/
module

public import proofs.«01_k».proof.Proof.Gen.ReferenceIdeal.Run
public import proofs.«01_k».proof.Proof.Math.Args
public import Idealize.ShloMosaic.Lib.Pointwise

@[expose] public section

set_option maxRecDepth 16384

noncomputable section

namespace Cert.ReferenceIdeal.Net

open Idealize.ShloMosaic Idealize.ShloMosaic.TcCoe Idealize.SL.Sem Idealize.ShloMosaic.StableHlo
open Cert.ReferenceIdeal Cert.ReferenceIdeal.Gen  Cert.ReferenceIdeal.Value Cert.Net

/-- The mean of a layer's columns. -/
def muR (h : FVec Ideal S262144x64 .f32) (v : FVec Ideal S262144x1 .f32) (ct : FVec Ideal S_ .f32) : FVec Ideal S64 .f32 :=
  Host.divf (Host.reduceAdd (mulf h (broadcastInDim S262144x64 ![0, 1] bcast_S262144x1_S262144x64_0_1 v)) (constant S_ .f32 0x00000000#32) reducesTo_S262144x64_S64_d0 h_S_) (broadcastInDim S64 ![] bcast_S_S64 ct)

/-- A layer less its columns' means. -/
def dvR (h : FVec Ideal S262144x64 .f32) (mu : FVec Ideal S64 .f32) : FVec Ideal S262144x64 .f32 :=
  subf h (broadcastInDim S262144x64 ![0, 1] bcast_S1x64_S262144x64_0_1 (broadcastInDim S1x64 ![1] bcast_S64_S1x64_1 mu))

/-- The normalised and rectified layer. -/
def layR (h dv : FVec Ideal S262144x64 .f32) (v : FVec Ideal S262144x1 .f32) (mu : FVec Ideal S64 .f32) (ct : FVec Ideal S_ .f32) (g b : FVec Ideal S64 .f32) :
    FVec Ideal S262144x64 .f32 :=
  maximumf (addf (mulf (Host.divf (dvR h mu) (broadcastInDim S262144x64 ![0, 1] bcast_S1x64_S262144x64_0_1 (broadcastInDim S1x64 ![1] bcast_S64_S1x64_1 (Host.sqrt (addf (Host.divf (Host.reduceAdd (mulf (mulf dv dv) (broadcastInDim S262144x64 ![0, 1] bcast_S262144x1_S262144x64_0_1 v)) (constant S_ .f32 0x00000000#32) reducesTo_S262144x64_S64_d0 h_S_) (broadcastInDim S64 ![] bcast_S_S64 ct)) (broadcastInDim S64 ![] bcast_S_S64 (constant S_ .f32 0x3727C5AC#32))))))) (broadcastInDim S262144x64 ![0, 1] bcast_S1x64_S262144x64_0_1 (broadcastInDim S1x64 ![1] bcast_S64_S1x64_1 g))) (broadcastInDim S262144x64 ![0, 1] bcast_S1x64_S262144x64_0_1 (broadcastInDim S1x64 ![1] bcast_S64_S1x64_1 b))) (broadcastInDim S262144x64 ![] bcast_S_S262144x64 (constant S_ .f32 0x00000000#32))

section
variable {h : FVec Ideal S262144x64 .f32} {v : FVec Ideal S262144x1 .f32} {ct : FVec Ideal S_ .f32}
  {H : Fin 262144 → Fin 64 → EReal} {w : Fin 262144 → EReal}

/-- The mean of a layer's column is the mean over the rows that count. -/
theorem muR_at (hh : ∀ r c, h (ix2 r c) = H r c) (hv : ∀ r, v (ix2 r 0) = w r) (hct : ct ix0 = cnt w) (c : Fin 64) :
    muR h v ct (ix1 c) = mean w fun r => H r c := by
  pointwise [muR]
  simp only [hh, hv, hct]
  rfl

/-- A layer's entry less its column's mean. -/
theorem dvR_at {mu : FVec Ideal S64 .f32} {M : Fin 64 → EReal} (hh : ∀ r c, h (ix2 r c) = H r c) (hm : ∀ c, mu (ix1 c) = M c) (r : Fin 262144) (c : Fin 64) :
    dvR h mu (ix2 r c) = H r c - M c := by
  pointwise [dvR]
  rw [hh, hm]

/-- The normalised and rectified layer, entry by entry. -/
theorem layR_at (hh : ∀ r c, h (ix2 r c) = H r c) (hv : ∀ r, v (ix2 r 0) = w r) (hct : ct ix0 = cnt w) {g b : FVec Ideal S64 .f32} {G B : Fin 64 → EReal}
    (hg : ∀ c, g (ix1 c) = G c) (hb : ∀ c, b (ix1 c) = B c) (r : Fin 262144) (c : Fin 64) :
    layR h (dvR h (muR h v ct)) v (muR h v ct) ct g b (ix2 r c) = act w H G B r c := by
  have hd : ∀ r c, dvR h (muR h v ct) (ix2 r c) = H r c - mean w fun r => H r c := dvR_at hh (muR_at hh hv hct)
  pointwise [layR]
  simp only [hd, hv, hct, hg, hb]
  rfl
end

variable (V0 : Valuation τ sig (Elt Ideal))

/-- The network's inputs in the reference's arguments. -/
def prm : Params := params (V0 (Proc.devRef .tc main_arg0)) (V0 (Proc.devRef .tc main_arg1)) (V0 (Proc.devRef .tc main_arg2)) (V0 (Proc.devRef .tc main_arg3))
  (V0 (Proc.devRef .tc main_arg4)) (V0 (Proc.devRef .tc main_arg5)) (V0 (Proc.devRef .tc main_arg6)) (V0 (Proc.devRef .tc main_arg7)) (V0 (Proc.devRef .tc main_arg8))
  (V0 (Proc.devRef .tc main_arg9)) (V0 (Proc.devRef .tc main_arg10)) (V0 (Proc.devRef .tc main_arg11)) (V0 (Proc.devRef .tc main_arg12)) (V0 (Proc.devRef .tc main_arg13))
  (V0 (Proc.devRef .tc main_arg14)) (V0 (Proc.devRef .tc main_arg15)) (V0 (Proc.devRef .tc main_arg16)) (V0 (Proc.devRef .tc main_arg17)) (V0 (Proc.devRef .tc main_arg18))
  (V0 (Proc.devRef .tc main_arg19)) (V0 (Proc.devRef .tc main_arg20)) (V0 (Proc.devRef .tc main_arg21)) (V0 (Proc.devRef .tc main_arg22))

/-- The steps the reference takes. -/
theorem v4_at (a : Fin 16) (b : Fin 256) (i : Fin 64) (d : Fin 2) : (res_main_v4 V0 : FVec Ideal S16x256x64x2 .f32) (ix4 a b i d) = step (V0 (Proc.devRef .tc main_arg0)) a b i d := by
  unfold step
  pointwise [res_main_v4]
  refine dite_congr rfl (fun _ => rfl) (fun h => ?_)
  have e : (⟨1 + (i.val - 1), by omega⟩ : Fin 64) = i := Fin.ext (by show 1 + (i.val - 1) = i.val; omega)
  exact congrArg₂ (fun x y : EReal => x - y) (congrArg (fun j => V0 (Proc.devRef .tc main_arg0) (ix4 a b j d)) e) rfl

/-- The row mask. -/
theorem v22_at (r : Fin 262144) : (res_main_v22 V0 : FVec Ideal S262144x1 .f32) (ix2 r 0) = (prm V0).v r := by
  pointwise [res_main_v22]
  rfl

/-- The number of rows that count, at least one. -/
def ctR (v : FVec Ideal S262144x1 .f32) : FVec Ideal S_ .f32 :=
  maximumf (Host.reduceAdd v (constant S_ .f32 0x00000000#32) reducesTo_S262144x1_S_d0_1 h_S_) (constant S_ .f32 0x3F800000#32)

/-- The number of rows that count, at least one, from the row mask. -/
theorem ctR_at {v : FVec Ideal S262144x1 .f32} {w : Fin 262144 → EReal} (hv : ∀ r, v (ix2 r 0) = w r) : ctR v ix0 = cnt w := by
  pointwise [ctR]
  unfold cnt
  refine congrArg (fun x : EReal => max x 1) (Finset.sum_congr rfl fun r _ => ?_)
  exact (Fin.sum_univ_one _).trans (hv r)

/-- A row's features times the weights. -/
theorem v25_at (r : Fin 262144) (c : Fin 64) : (res_main_v25 V0 : FVec Ideal S262144x64 .f32) (ix2 r c) = (prm V0).h0 r c := by
  unfold Params.h0 lin
  pointwise [res_main_v25]
  show @Eq EReal _ _
  refine Finset.sum_congr rfl fun k _ => congrArg (fun x : EReal => x * (prm V0).w0 c k) ?_
  show _ = feat (V0 (Proc.devRef .tc main_arg0)) (V0 (Proc.devRef .tc main_arg1)) r k
  have k5 : k = 0 ∨ k = 1 ∨ k = 2 ∨ k = 3 ∨ k = 4 := by have := k.isLt; omega
  rcases k5 with rfl | rfl | rfl | rfl | rfl
  · exact (dif_pos (by decide)).trans (v4_at V0 _ _ _ _)
  · exact (dif_pos (by decide)).trans (v4_at V0 _ _ _ _)
  · exact (dif_neg (by decide)).trans ((dif_pos (by decide)).trans (congrArg₂ Ideal.atan2 (v4_at V0 _ _ _ _) (v4_at V0 _ _ _ _)))
  · exact (dif_neg (by decide)).trans ((dif_neg (by decide)).trans (dif_pos (by decide)))
  · exact (dif_neg (by decide)).trans ((dif_neg (by decide)).trans (dif_neg (by decide)))

end Cert.ReferenceIdeal.Net

end
-- ==== Proof.RefB.lean ====
/- What the reference's layers hold, entry by entry. -/
module

public import proofs.«01_k».proof.Proof.RefA
public import Idealize.ShloMosaic.Lib.Pointwise

@[expose] public section

set_option maxRecDepth 16384

noncomputable section

namespace Cert.ReferenceIdeal.Net

open Idealize.ShloMosaic Idealize.ShloMosaic.TcCoe Idealize.SL.Sem Idealize.ShloMosaic.StableHlo
open Cert.ReferenceIdeal Cert.ReferenceIdeal.Gen  Cert.ReferenceIdeal.Value Cert.Net

variable (V0 : Valuation τ sig (Elt Ideal))

/-- A layer's products. -/
def linR (h : FVec Ideal S262144x64 .f32) (w : FVec Ideal S64x64 .f32) : FVec Ideal S262144x64 .f32 :=
  Host.dotGeneral dot_S262144x64_S64x64_S262144x64_1_0_0_1_n_n none h (transpose S64x64 [1, 0] w transposes_S64x64_S64x64_1_0)

/-- A layer's products, entry by entry. -/
theorem linR_at {h : FVec Ideal S262144x64 .f32} (w : FVec Ideal S64x64 .f32) {H : Fin 262144 → Fin 64 → EReal} (hh : ∀ r c, h (ix2 r c) = H r c) (r : Fin 262144) (c : Fin 64) :
    linR h w (ix2 r c) = lin H (fun c k => w (ix2 c k)) r c := by
  pointwise [linR]
  simp only [hh]
  rfl

/-- The masked layer, a lane's rows together. -/
def lanR (h : FVec Ideal S262144x64 .f32) (v : FVec Ideal S262144x1 .f32) : FVec Ideal S16x256x64x64 .f32 :=
  shapeCast S16x256x64x64 (mulf h (broadcastInDim S262144x64 ![0, 1] bcast_S262144x1_S262144x64_0_1 v)) shapeCasts_S262144x64_S16x256x64x64

/-- The masked layer at a lane's row is the masked entry of that row. -/
theorem lanR_at {h : FVec Ideal S262144x64 .f32} {v : FVec Ideal S262144x1 .f32} {H : Fin 262144 → Fin 64 → EReal} {w : Fin 262144 → EReal} (hh : ∀ r c, h (ix2 r c) = H r c) (hv : ∀ r, v (ix2 r 0) = w r)
    (a : Fin 16) (b : Fin 256) (i : Fin 64) (c : Fin 64) :
    lanR h v (ix4 a b i c) = msk w H ⟨a.val * 16384 + b.val * 64 + i.val, by omega⟩ c := by
  pointwise [lanR]
  rw [hh, hv]
  rfl

/-- The starting value of the maximum is the bottom element. -/
theorem bot32 : Ideal.ofBits .f32 4286578688#32 = ⊥ := by simp [Ideal.ofBits, Ideal.ieee]

/-- The maximum over a lane's rows. -/
def pooR (f : FVec Ideal S16x256x64x64 .f32) : FVec Ideal S16x256x64 .f32 :=
  Host.reduce FloatOps.maximumf f (constant S_ .f32 0xFF800000#32) reducesTo_S16x256x64x64_S16x256x64_d2 h_S_

/-- The maximum over a lane's rows, entry by entry. -/
theorem pooR_at {f : FVec Ideal S16x256x64x64 .f32} {F : Fin 262144 → Fin 64 → EReal}
    (hf : ∀ (a : Fin 16) (b : Fin 256) (i : Fin 64) (c : Fin 64), f (ix4 a b i c) = F ⟨a.val * 16384 + b.val * 64 + i.val, by omega⟩ c) (a : Fin 16) (b : Fin 256) (c : Fin 64) :
    pooR f (ix3 a b c) = pool F ⟨a.val * 256 + b.val, by omega⟩ c := by
  pointwise [pooR]
  simp only [bot32]
  unfold Cert.Net.pool
  refine Finset.fold_congr fun i _ => (hf a b i c).trans (congrArg (fun r => F r c) (Fin.ext ?_))
  show a.val * 16384 + b.val * 64 + i.val = (a.val * 256 + b.val) * 64 + i.val
  omega

/-- The layer over a row's features and its lane's maxima. -/
def catR (f : FVec Ideal S16x256x64x64 .f32) (w : FVec Ideal S64x128 .f32) : FVec Ideal S262144x64 .f32 :=
  Host.dotGeneral dot_S262144x128_S128x64_S262144x64_1_0_0_1_n_n none (shapeCast S262144x128 (concatenate S16x256x64x128 3 [⟨S16x256x64x64, f⟩, ⟨S16x256x64x64, (broadcastInDim S16x256x64x64 ![0, 1, 2, 3] bcast_S16x256x1x64_S16x256x64x64_0_1_2_3 (broadcastInDim S16x256x1x64 ![0, 1, 3] bcast_S16x256x64_S16x256x1x64_0_1_3 (pooR f)))⟩] concatenates_S16x256x64x64_S16x256x64x64_S16x256x64x128_d3) shapeCasts_S16x256x64x128_S262144x128) (transpose S128x64 [1, 0] w transposes_S64x128_S128x64_1_0)

/-- The products over a row's features and its lane's maxima, entry by entry. -/
theorem catR_at {f : FVec Ideal S16x256x64x64 .f32} (w : FVec Ideal S64x128 .f32) {F : Fin 262144 → Fin 64 → EReal}
    (hf : ∀ (a : Fin 16) (b : Fin 256) (i : Fin 64) (c : Fin 64), f (ix4 a b i c) = F ⟨a.val * 16384 + b.val * 64 + i.val, by omega⟩ c) (r : Fin 262144) (c : Fin 64) :
    catR f w (ix2 r c) = lin (cat F) (fun c k => w (ix2 c k)) r c := by
  have hp := pooR_at hf
  have hr := r.isLt
  rw [lin_cat]
  unfold catR
  generalize pooR f = g at hp
  pointwise
  refine congrArg₂ (fun x y : EReal => x + y) (Finset.sum_congr rfl fun k _ => congrArg (fun x : EReal => x * w (ix2 c _)) ((hf _ _ _ _).trans (congrArg (fun r => F r k) (Fin.ext ?_))))
    (Finset.sum_congr rfl fun k _ => congrArg (fun x : EReal => x * w (ix2 c _)) ((hp _ _ _).trans (congrArg (fun l => Cert.Net.pool F l k) (Fin.ext ?_))))
  · show r.val / 16384 * 16384 + r.val / 64 % 256 * 64 + r.val % 64 = r.val
    omega
  · show r.val / 16384 * 256 + r.val / 64 % 256 = r.val / 64
    omega

/-- The output layers. -/
def outR (q : FVec Ideal S16x256x64 .f32) (w0 : FVec Ideal S64x64 .f32) (b0 : FVec Ideal S64 .f32) (w1 : FVec Ideal S64x64 .f32) (b1 : FVec Ideal S64 .f32) (k : IVec S16x256 1) : FVec Ideal S16x256x64 .f32 :=
  shapeCast S16x256x64 (mulf (addf (Host.dotGeneral dot_S4096x64_S64x64_S4096x64_1_0_0_1_n_n none (maximumf (addf (Host.dotGeneral (φ₂ := .f32) dot_S4096x64_S64x64_S4096x64_1_0_0_1_n_n none (shapeCast S4096x64 q shapeCasts_S16x256x64_S4096x64) (transpose S64x64 [1, 0] w0 transposes_S64x64_S64x64_1_0)) (broadcastInDim S4096x64 ![0, 1] bcast_S1x64_S4096x64_0_1 (broadcastInDim S1x64 ![1] bcast_S64_S1x64_1 b0))) (broadcastInDim S4096x64 ![] bcast_S_S4096x64 (constant S_ .f32 0x00000000#32))) (transpose S64x64 [1, 0] w1 transposes_S64x64_S64x64_1_0)) (broadcastInDim S4096x64 ![0, 1] bcast_S1x64_S4096x64_0_1 (broadcastInDim S1x64 ![1] bcast_S64_S1x64_1 b1))) (broadcastInDim S4096x64 ![0, 1] bcast_S4096x1_S4096x64_0_1 (shapeCast S4096x1 (uitofp .f32 (noti k)) shapeCasts_S16x256_S4096x1))) shapeCasts_S4096x64_S16x256x64

/-- The output layers, entry by entry. -/
theorem outR_at {q : FVec Ideal S16x256x64 .f32} {f : Fin 4096 → Fin 64 → EReal} (w0 : FVec Ideal S64x64 .f32) (b0 : FVec Ideal S64 .f32) (w1 : FVec Ideal S64x64 .f32) (b1 : FVec Ideal S64 .f32) (k : IVec S16x256 1)
    (hq : ∀ (a : Fin 16) (b : Fin 256) (c : Fin 64), q (ix3 a b c) = f ⟨a.val * 256 + b.val, by omega⟩ c) (l : Fin 4096) (c : Fin 64) :
    outR q w0 b0 w1 b1 k (ix3 (la l) (lb l) c)
      = (lin (fun l c => max (lin f (fun c k => w0 (ix2 c k)) l c + b0 (ix1 c)) 0) (fun c k => w1 (ix2 c k)) l c + b1 (ix1 c)) * bit (k (ix2 (la l) (lb l))) := by
  have hl : ∀ c, q (ix3 (la l) (lb l) c) = f l c := fun c =>
    (hq _ _ _).trans (congrArg (fun l => f l c) (Fin.ext (by show l.val / 256 * 256 + l.val % 256 = l.val; omega)))
  pointwise [outR]
  simp only [hl]
  rfl

/-- The count of rows for the first layer, from the row mask. -/
theorem e27 : res_main_v27 V0 = ctR (res_main_v22 V0) := rfl
/-- The first layer's means, from its products. -/
theorem e32 : res_main_v32 V0 = muR (res_main_v25 V0) (res_main_v22 V0) (res_main_v27 V0) := rfl
/-- The first layer's products less their means. -/
theorem e35 : res_main_v35 V0 = dvR (res_main_v25 V0) (res_main_v32 V0) := rfl
/-- The second layer's products, from the first layer. -/
theorem e59 : res_main_v59 V0 = linR (layR (res_main_v25 V0) (res_main_v35 V0) (res_main_v22 V0) (res_main_v32 V0) (res_main_v27 V0) (V0 (Proc.devRef .tc main_arg5)) (V0 (Proc.devRef .tc main_arg6)))
    (V0 (Proc.devRef .tc main_arg7)) := rfl

/-- The second layer's products are the network's. -/
theorem v59_at (r : Fin 262144) (c : Fin 64) : (res_main_v59 V0 : FVec Ideal S262144x64 .f32) (ix2 r c) = (prm V0).h1 r c := by
  rw [e59, e35, e32, e27]
  exact linR_at _ (layR_at (v25_at V0) (v22_at V0) (ctR_at (v22_at V0)) (fun _ => rfl) (fun _ => rfl)) r c

/-- The count of rows for the second layer, from the row mask. -/
theorem e61 : res_main_v61 V0 = ctR (res_main_v22 V0) := rfl
/-- The second layer's means, from its products. -/
theorem e66 : res_main_v66 V0 = muR (res_main_v59 V0) (res_main_v22 V0) (res_main_v61 V0) := rfl
/-- The second layer's products less their means. -/
theorem e69 : res_main_v69 V0 = dvR (res_main_v59 V0) (res_main_v66 V0) := rfl
/-- The third layer's products, from the second layer. -/
theorem e93 : res_main_v93 V0 = linR (layR (res_main_v59 V0) (res_main_v69 V0) (res_main_v22 V0) (res_main_v66 V0) (res_main_v61 V0) (V0 (Proc.devRef .tc main_arg8)) (V0 (Proc.devRef .tc main_arg9)))
    (V0 (Proc.devRef .tc main_arg10)) := rfl

/-- The third layer's products are the network's. -/
theorem v93_at (r : Fin 262144) (c : Fin 64) : (res_main_v93 V0 : FVec Ideal S262144x64 .f32) (ix2 r c) = (prm V0).h2 r c := by
  rw [e93, e69, e66, e61]
  exact linR_at _ (layR_at (v59_at V0) (v22_at V0) (ctR_at (v22_at V0)) (fun _ => rfl) (fun _ => rfl)) r c

/-- The count of rows for the third layer, from the row mask. -/
theorem e95 : res_main_v95 V0 = ctR (res_main_v22 V0) := rfl
/-- The third layer's means, from its products. -/
theorem e100 : res_main_v100 V0 = muR (res_main_v93 V0) (res_main_v22 V0) (res_main_v95 V0) := rfl
/-- The third layer's products less their means. -/
theorem e103 : res_main_v103 V0 = dvR (res_main_v93 V0) (res_main_v100 V0) := rfl
/-- The masked third layer by lanes, from its products. -/
theorem e128 : res_main_v128 V0 = lanR (layR (res_main_v93 V0) (res_main_v103 V0) (res_main_v22 V0) (res_main_v100 V0) (res_main_v95 V0) (V0 (Proc.devRef .tc main_arg11)) (V0 (Proc.devRef .tc main_arg12))) (res_main_v22 V0) := rfl
/-- The fourth layer's products, from the masked third layer. -/
theorem e135 : res_main_v135 V0 = catR (res_main_v128 V0) (V0 (Proc.devRef .tc main_arg13)) := rfl

/-- The masked third layer is the network's. -/
theorem v128_at (a : Fin 16) (b : Fin 256) (i : Fin 64) (c : Fin 64) :
    (res_main_v128 V0 : FVec Ideal S16x256x64x64 .f32) (ix4 a b i c) = (prm V0).f3 ⟨a.val * 16384 + b.val * 64 + i.val, by omega⟩ c := by
  rw [e128, e103, e100, e95]
  exact lanR_at (layR_at (v93_at V0) (v22_at V0) (ctR_at (v22_at V0)) (fun _ => rfl) (fun _ => rfl)) (v22_at V0) a b i c

/-- The fourth layer's products are the network's. -/
theorem v135_at (r : Fin 262144) (c : Fin 64) : (res_main_v135 V0 : FVec Ideal S262144x64 .f32) (ix2 r c) = (prm V0).h3 r c := by
  rw [e135]
  exact catR_at _ (v128_at V0) r c

/-- The count of rows for the fourth layer, from the row mask. -/
theorem e137 : res_main_v137 V0 = ctR (res_main_v22 V0) := rfl
/-- The fourth layer's means, from its products. -/
theorem e142 : res_main_v142 V0 = muR (res_main_v135 V0) (res_main_v22 V0) (res_main_v137 V0) := rfl
/-- The fourth layer's products less their means. -/
theorem e145 : res_main_v145 V0 = dvR (res_main_v135 V0) (res_main_v142 V0) := rfl
/-- The fifth layer's products, from the fourth layer. -/
theorem e169 : res_main_v169 V0 = linR (layR (res_main_v135 V0) (res_main_v145 V0) (res_main_v22 V0) (res_main_v142 V0) (res_main_v137 V0) (V0 (Proc.devRef .tc main_arg14)) (V0 (Proc.devRef .tc main_arg15)))
    (V0 (Proc.devRef .tc main_arg16)) := rfl

/-- The fifth layer's products are the network's. -/
theorem v169_at (r : Fin 262144) (c : Fin 64) : (res_main_v169 V0 : FVec Ideal S262144x64 .f32) (ix2 r c) = (prm V0).h4 r c := by
  rw [e169, e145, e142, e137]
  exact linR_at _ (layR_at (v135_at V0) (v22_at V0) (ctR_at (v22_at V0)) (fun _ => rfl) (fun _ => rfl)) r c

/-- The count of rows for the fifth layer, from the row mask. -/
theorem e171 : res_main_v171 V0 = ctR (res_main_v22 V0) := rfl
/-- The fifth layer's means, from its products. -/
theorem e176 : res_main_v176 V0 = muR (res_main_v169 V0) (res_main_v22 V0) (res_main_v171 V0) := rfl
/-- The fifth layer's products less their means. -/
theorem e179 : res_main_v179 V0 = dvR (res_main_v169 V0) (res_main_v176 V0) := rfl

/-- The reference's result as the layers compose it. -/
def result : FVec Ideal S16x256x64 .f32 :=
  outR (pooR (lanR (layR (res_main_v169 V0) (res_main_v179 V0) (res_main_v22 V0) (res_main_v176 V0) (res_main_v171 V0) (V0 (Proc.devRef .tc main_arg17)) (V0 (Proc.devRef .tc main_arg18))) (res_main_v22 V0))) (V0 (Proc.devRef .tc main_arg19)) (V0 (Proc.devRef .tc main_arg20)) (V0 (Proc.devRef .tc main_arg21)) (V0 (Proc.devRef .tc main_arg22)) (V0 (Proc.devRef .tc main_arg3))

/-- The reference's result is the network's. -/
theorem result_at (l : Fin 4096) (c : Fin 64) : result V0 (ix3 (la l) (lb l) c) = (prm V0).y l c := by
  unfold result
  rw [e179, e176, e171]
  exact outR_at _ _ _ _ _ (pooR_at (lanR_at (layR_at (v169_at V0) (v22_at V0) (ctR_at (v22_at V0)) (fun _ => rfl) (fun _ => rfl)) (v22_at V0))) l c

end Cert.ReferenceIdeal.Net

end
-- ==== Proof.HostA.lean ====
/- What the host lines before the first pass leave in their arrays, one line at a time. -/
module

public import proofs.«01_k».proof.Proof.Gen.KernelIdeal.Launch
public import proofs.«01_k».proof.Proof.Math.Args
public import Idealize.ShloMosaic.Lib.StableHlo.ReadAt

@[expose] public section

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Net

variable (V : Valuation τ sig (Elt Ideal))

/-- A row of the first half. -/
theorem rw2_zero (n : Fin 131072) : rw2 0 n = ⟨n.val, by have := n.isLt; omega⟩ := Fin.ext (by simp [rw2])
/-- A row of the second half. -/
theorem rw2_one (n : Fin 131072) : rw2 1 n = ⟨131072 + n.val, by have := n.isLt; omega⟩ := Fin.ext (by simp [rw2])
/-- A lane of the first half. -/
theorem ln2_zero (n : Fin 2048) : ln2 0 n = ⟨n.val, by have := n.isLt; omega⟩ := Fin.ext (by simp [ln2])
/-- A lane of the second half. -/
theorem ln2_one (n : Fin 2048) : ln2 1 n = ⟨2048 + n.val, by have := n.isLt; omega⟩ := Fin.ext (by simp [ln2])
/-- A column of the first half. -/
theorem pk_zero (c : Fin 64) : pk 0 c = ⟨c.val, by have := c.isLt; omega⟩ := Fin.ext (by simp [pk])
/-- A column of the second half. -/
theorem pk_one (c : Fin 64) : pk 1 c = ⟨64 + c.val, by have := c.isLt; omega⟩ := Fin.ext (by simp [pk])
/-- A packed column names its half. -/
theorem pk_div (p : Fin 2) (c : Fin 64) (h : (pk p c).val / 64 < 2) : (⟨(pk p c).val / 64, h⟩ : Fin 2) = p :=
  Fin.ext (by show (p.val * 64 + c.val) / 64 = p.val; have := c.isLt; omega)
/-- A packed column names its column within the half. -/
theorem pk_mod (p : Fin 2) (c : Fin 64) (h : (pk p c).val % 64 < 64) : (⟨(pk p c).val % 64, h⟩ : Fin 64) = c :=
  Fin.ext (by show (p.val * 64 + c.val) % 64 = c.val; have := c.isLt; omega)

/-- The entry of the two-by-two unit matrix. -/
theorem eye (q p : Fin 2) : (FloatOps.uitofp (F := Ideal) .f32 (IntOp.cmpi CmpIPredicate.eq (IntOp.addi (BitVec.ofNat 32 q.val) 0#32) (BitVec.ofNat 32 p.val)) : EReal)
    = if q = p then 1 else 0 := by
  fin_cases q <;> fin_cases p
  · exact uitofp_one _
  · exact uitofp_zero _
  · exact uitofp_zero _
  · exact uitofp_one _

/-- A unit matrix entry times a number keeps the number on the diagonal only. -/
theorem pick (q p : Fin 2) (w : EReal) : (if q = p then (1 : EReal) else 0) * w = if q = p then w else 0 := by
  split <;> simp

/-- The row mask in halves. -/
theorem h0_v41 (p : Fin 2) (n : Fin 131072) : (after hostOps0 V (Proc.devRef .tc main_v41) : FVec Ideal S2x131072 .bf16) (ix2 p n)
    = bit ((V (Proc.devRef .tc main_arg2) : IVec S16x256x64 1) (ix3 (ra (rw2 p n)) (rb (rw2 p n)) (rc (rw2 p n)))) := by
  obtain rfl | rfl : p = 0 ∨ p = 1 := by omega
  · rw [rw2_zero]; after_reads_at; after_reads_at; rfl
  · rw [rw2_one]; after_reads_at; after_reads_at; rfl

/-- The lane mask in halves. -/
theorem h0_v52 (p : Fin 2) (n : Fin 2048) : (after hostOps0 V (Proc.devRef .tc main_v52) : FVec Ideal S2x2048 .f32) (ix2 p n)
    = bit ((V (Proc.devRef .tc main_arg3) : IVec S16x256 1) (ix2 (la (ln2 p n)) (lb (ln2 p n)))) := by
  obtain rfl | rfl : p = 0 ∨ p = 1 := by omega
  · rw [ln2_zero]; after_reads_at; after_reads_at; rfl
  · rw [ln2_one]; after_reads_at; after_reads_at; rfl

/-- The steps between a lane's positions. -/
theorem up_step (r : Fin 262144) (d : Fin 2) :
    (if h : r.val % 64 < 1 then (upto hostOps0 V 6 (Proc.devRef .tc main_v4) : FVec Ideal S4096x1x2 .f32) (ix3 ⟨r.val / 64, by have := r.isLt; omega⟩ ⟨r.val % 64, h⟩ d)
      else (upto hostOps0 V 6 (Proc.devRef .tc main_v3) : FVec Ideal S4096x63x2 .f32) (ix3 ⟨r.val / 64, by have := r.isLt; omega⟩ ⟨r.val % 64 - 1, by omega⟩ d))
    = step (V (Proc.devRef .tc main_arg0) : FVec Ideal S16x256x64x2 .f32) (ra r) (rb r) (rc r) d := by
  unfold step
  refine dite_congr rfl (fun h => ?_) (fun h => ?_)
  · after_reads_at
  · after_reads_at
    have ix : ∀ (a a' : Fin 16) (b b' : Fin 256) (c c' : Fin 64), a.val = a'.val → b.val = b'.val → c.val = c'.val →
        (ix4 a b c d : S16x256x64x2.Idx) = ix4 a' b' c' d := by
      intro a a' b b' c c' ha hb hc
      obtain rfl := Fin.ext ha
      obtain rfl := Fin.ext hb
      obtain rfl := Fin.ext hc
      rfl
    have hr := r.isLt
    have h' : ¬ r.val % 64 < 1 := h
    refine congrArg₂ (fun x y : EReal => x - y) (congrArg _ (ix _ _ _ _ _ _ ?_ ?_ ?_)) (congrArg _ (ix _ _ _ _ _ _ ?_ ?_ ?_))
    · show r.val / 64 / 256 = r.val / 16384; omega
    · rfl
    · show 1 + (r.val % 64 - 1) = r.val % 64; omega
    · show r.val / 64 / 256 = r.val / 16384; omega
    · rfl
    · rfl

set_option maxHeartbeats 2000000 in
/-- The masked feature of a row: the step along the first axis. -/
theorem up_v17 (r : Fin 262144) : (upto hostOps0 V 30 (Proc.devRef .tc main_v17) : FVec Ideal S262144x1 .f32) (ix2 r 0)
    = feat (V (Proc.devRef .tc main_arg0) : FVec Ideal S16x256x64x2 .f32) (V (Proc.devRef .tc main_arg1) : FVec Ideal S16x256x3 .f32) r 0 * bit ((V (Proc.devRef .tc main_arg2) : IVec S16x256x64 1) (ix3 (ra r) (rb r) (rc r))) := by
  after_reads_at
  exact congrArg₂ (· * ·) (up_step V r 0) rfl

set_option maxHeartbeats 2000000 in
/-- The masked feature of a row: the step along the second axis. -/
theorem up_v18 (r : Fin 262144) : (upto hostOps0 V 30 (Proc.devRef .tc main_v18) : FVec Ideal S262144x1 .f32) (ix2 r 0)
    = feat (V (Proc.devRef .tc main_arg0) : FVec Ideal S16x256x64x2 .f32) (V (Proc.devRef .tc main_arg1) : FVec Ideal S16x256x3 .f32) r 1 * bit ((V (Proc.devRef .tc main_arg2) : IVec S16x256x64 1) (ix3 (ra r) (rb r) (rc r))) := by
  after_reads_at
  exact congrArg₂ (· * ·) (up_step V r 1) rfl

set_option maxHeartbeats 2000000 in
/-- The masked feature of a row: the step's direction. -/
theorem up_v16 (r : Fin 262144) : (upto hostOps0 V 30 (Proc.devRef .tc main_v16) : FVec Ideal S262144x1 .f32) (ix2 r 0)
    = feat (V (Proc.devRef .tc main_arg0) : FVec Ideal S16x256x64x2 .f32) (V (Proc.devRef .tc main_arg1) : FVec Ideal S16x256x3 .f32) r 2 * bit ((V (Proc.devRef .tc main_arg2) : IVec S16x256x64 1) (ix3 (ra r) (rb r) (rc r))) := by
  after_reads_at
  exact congrArg₂ (· * ·) (congrArg₂ Ideal.atan2 (up_step V r 1) (up_step V r 0)) rfl

set_option maxHeartbeats 2000000 in
/-- The masked feature of a row: the first attribute of the lane that is used. -/
theorem up_v23 (r : Fin 262144) : (upto hostOps0 V 30 (Proc.devRef .tc main_v23) : FVec Ideal S262144x1 .f32) (ix2 r 0)
    = feat (V (Proc.devRef .tc main_arg0) : FVec Ideal S16x256x64x2 .f32) (V (Proc.devRef .tc main_arg1) : FVec Ideal S16x256x3 .f32) r 3 * bit ((V (Proc.devRef .tc main_arg2) : IVec S16x256x64 1) (ix3 (ra r) (rb r) (rc r))) := by
  after_reads_at
  rfl

set_option maxHeartbeats 2000000 in
/-- The masked feature of a row: the second attribute of the lane that is used. -/
theorem up_v28 (r : Fin 262144) : (upto hostOps0 V 30 (Proc.devRef .tc main_v28) : FVec Ideal S262144x1 .f32) (ix2 r 0)
    = feat (V (Proc.devRef .tc main_arg0) : FVec Ideal S16x256x64x2 .f32) (V (Proc.devRef .tc main_arg1) : FVec Ideal S16x256x3 .f32) r 4 * bit ((V (Proc.devRef .tc main_arg2) : IVec S16x256x64 1) (ix3 (ra r) (rb r) (rc r))) := by
  after_reads_at
  rfl

set_option maxHeartbeats 2000000 in
/-- The masked features, two rows side by side. -/
theorem h0_v33 (p : Fin 2) (n : Fin 131072) (k : Fin 5) (h : p.val * 5 + k.val < 10) : (after hostOps0 V (Proc.devRef .tc main_v33) : FVec Ideal S131072x10 .bf16) (ix2 n ⟨p.val * 5 + k.val, h⟩)
    = feat (V (Proc.devRef .tc main_arg0) : FVec Ideal S16x256x64x2 .f32) (V (Proc.devRef .tc main_arg1) : FVec Ideal S16x256x3 .f32) (rw2 p n) k * bit ((V (Proc.devRef .tc main_arg2) : IVec S16x256x64 1) (ix3 (ra (rw2 p n)) (rb (rw2 p n)) (rc (rw2 p n)))) := by
  obtain rfl | rfl : p = 0 ∨ p = 1 := by omega
  · rw [rw2_zero]
    obtain rfl | rfl | rfl | rfl | rfl : k = 0 ∨ k = 1 ∨ k = 2 ∨ k = 3 ∨ k = 4 := by omega
    · after_reads_at; after_reads_at; exact up_v17 V _
    · after_reads_at; after_reads_at; exact up_v18 V _
    · after_reads_at; after_reads_at; exact up_v16 V _
    · after_reads_at; after_reads_at; exact up_v23 V _
    · after_reads_at; after_reads_at; exact up_v28 V _
  · rw [rw2_one]
    obtain rfl | rfl | rfl | rfl | rfl : k = 0 ∨ k = 1 ∨ k = 2 ∨ k = 3 ∨ k = 4 := by omega
    · after_reads_at; after_reads_at; exact up_v17 V _
    · after_reads_at; after_reads_at; exact up_v18 V _
    · after_reads_at; after_reads_at; exact up_v16 V _
    · after_reads_at; after_reads_at; exact up_v23 V _
    · after_reads_at; after_reads_at; exact up_v28 V _

/-- The first layer's weights, transposed. -/
theorem h0_v53 (k : Fin 5) (c : Fin 64) : (after hostOps0 V (Proc.devRef .tc main_v53) : FVec Ideal S5x64 .f32) (ix2 k c)
    = (V (Proc.devRef .tc main_arg4) : FVec Ideal S64x5 .f32) (ix2 c k) := by
  after_reads_at

/-- The two-by-two unit matrix for the first layer's weights. -/
theorem h0_v59 (q p : Fin 2) : (after hostOps0 V (Proc.devRef .tc main_v59) : FVec Ideal S2x2 .f32) (ix2 q p) = if q = p then (1 : EReal) else 0 := by
  after_reads_at; exact eye q p

/-- The first layer's weights twice on the diagonal, zero elsewhere. -/
theorem h0_1_v60 (w : Fin 64 → Fin 5 → EReal) (he : ∀ q p, (V (Proc.devRef .tc main_v59) : FVec Ideal S2x2 .f32) (ix2 q p) = if q = p then (1 : EReal) else 0)
    (hw : ∀ k c, (V (Proc.devRef .tc main_v53) : FVec Ideal S5x64 .f32) (ix2 k c) = w c k) (q p : Fin 2) (k : Fin 5) (c : Fin 64) (h : q.val * 5 + k.val < 10) :
    (after hostOps0_1 V (Proc.devRef .tc main_v60) : FVec Ideal S10x128 .f32) (ix2 ⟨q.val * 5 + k.val, h⟩ (pk p c)) = if q = p then w c k else 0 := by
  after_reads_at
  rw [pk_div, pk_mod, he, hw]
  exact pick q p _

/-- The doubled first layer's weights, the same numbers in the shorter type. -/
theorem h0_2_v61 (i : Fin 10) (j : Fin 128) : (after hostOps0_2 V (Proc.devRef .tc main_v61) : FVec Ideal S10x128 .bf16) (ix2 i j) = ((V (Proc.devRef .tc main_v60) : FVec Ideal S10x128 .f32) (ix2 i j) : EReal) := by
  after_reads_at

/-- The second layer's weights, transposed. -/
theorem h0_2_v62 (k : Fin 64) (c : Fin 64) : (after hostOps0_2 V (Proc.devRef .tc main_v62) : FVec Ideal S64x64 .f32) (ix2 k c)
    = (V (Proc.devRef .tc main_arg7) : FVec Ideal S64x64 .f32) (ix2 c k) := by
  after_reads_at

/-- The two-by-two unit matrix for the second layer's weights. -/
theorem h0_2_v68 (q p : Fin 2) : (after hostOps0_2 V (Proc.devRef .tc main_v68) : FVec Ideal S2x2 .f32) (ix2 q p) = if q = p then (1 : EReal) else 0 := by
  after_reads_at; exact eye q p

/-- The second layer's weights twice on the diagonal, zero elsewhere. -/
theorem h0_3_v69 (w : Fin 64 → Fin 64 → EReal) (he : ∀ q p, (V (Proc.devRef .tc main_v68) : FVec Ideal S2x2 .f32) (ix2 q p) = if q = p then (1 : EReal) else 0)
    (hw : ∀ k c, (V (Proc.devRef .tc main_v62) : FVec Ideal S64x64 .f32) (ix2 k c) = w c k) (q p : Fin 2) (k : Fin 64) (c : Fin 64) (h : q.val * 64 + k.val < 128) :
    (after hostOps0_3 V (Proc.devRef .tc main_v69) : FVec Ideal S128x128 .f32) (ix2 ⟨q.val * 64 + k.val, h⟩ (pk p c)) = if q = p then w c k else 0 := by
  after_reads_at
  rw [pk_div, pk_mod, he, hw]
  exact pick q p _

/-- The doubled second layer's weights, the same numbers in the shorter type. -/
theorem h0_4_v70 (i : Fin 128) (j : Fin 128) : (after hostOps0_4 V (Proc.devRef .tc main_v70) : FVec Ideal S128x128 .bf16) (ix2 i j) = ((V (Proc.devRef .tc main_v69) : FVec Ideal S128x128 .f32) (ix2 i j) : EReal) := by
  after_reads_at

/-- The third layer's weights, transposed. -/
theorem h0_4_v71 (k : Fin 64) (c : Fin 64) : (after hostOps0_4 V (Proc.devRef .tc main_v71) : FVec Ideal S64x64 .f32) (ix2 k c)
    = (V (Proc.devRef .tc main_arg10) : FVec Ideal S64x64 .f32) (ix2 c k) := by
  after_reads_at

/-- The two-by-two unit matrix for the third layer's weights. -/
theorem h0_4_v77 (q p : Fin 2) : (after hostOps0_4 V (Proc.devRef .tc main_v77) : FVec Ideal S2x2 .f32) (ix2 q p) = if q = p then (1 : EReal) else 0 := by
  after_reads_at; exact eye q p

/-- The third layer's weights twice on the diagonal, zero elsewhere. -/
theorem h0_5_v78 (w : Fin 64 → Fin 64 → EReal) (he : ∀ q p, (V (Proc.devRef .tc main_v77) : FVec Ideal S2x2 .f32) (ix2 q p) = if q = p then (1 : EReal) else 0)
    (hw : ∀ k c, (V (Proc.devRef .tc main_v71) : FVec Ideal S64x64 .f32) (ix2 k c) = w c k) (q p : Fin 2) (k : Fin 64) (c : Fin 64) (h : q.val * 64 + k.val < 128) :
    (after hostOps0_5 V (Proc.devRef .tc main_v78) : FVec Ideal S128x128 .f32) (ix2 ⟨q.val * 64 + k.val, h⟩ (pk p c)) = if q = p then w c k else 0 := by
  after_reads_at
  rw [pk_div, pk_mod, he, hw]
  exact pick q p _

/-- The doubled third layer's weights, the same numbers in the shorter type. -/
theorem h0_6_v79 (i : Fin 128) (j : Fin 128) : (after hostOps0_6 V (Proc.devRef .tc main_v79) : FVec Ideal S128x128 .bf16) (ix2 i j) = ((V (Proc.devRef .tc main_v78) : FVec Ideal S128x128 .f32) (ix2 i j) : EReal) := by
  after_reads_at

/-- The weights of the fourth layer for the features, transposed. -/
theorem h0_6_v81 (k : Fin 64) (c : Fin 64) : (after hostOps0_6 V (Proc.devRef .tc main_v81) : FVec Ideal S64x64 .f32) (ix2 k c)
    = (V (Proc.devRef .tc main_arg13) : FVec Ideal S64x128 .f32) (ix2 c ⟨k.val, by have := k.isLt; omega⟩) := by
  after_reads_at

/-- The two-by-two unit matrix for the weights of the fourth layer for the features. -/
theorem h0_6_v87 (q p : Fin 2) : (after hostOps0_6 V (Proc.devRef .tc main_v87) : FVec Ideal S2x2 .f32) (ix2 q p) = if q = p then (1 : EReal) else 0 := by
  after_reads_at; exact eye q p

/-- The weights of the fourth layer for the features twice on the diagonal, zero elsewhere. -/
theorem h0_7_v88 (w : Fin 64 → Fin 64 → EReal) (he : ∀ q p, (V (Proc.devRef .tc main_v87) : FVec Ideal S2x2 .f32) (ix2 q p) = if q = p then (1 : EReal) else 0)
    (hw : ∀ k c, (V (Proc.devRef .tc main_v81) : FVec Ideal S64x64 .f32) (ix2 k c) = w c k) (q p : Fin 2) (k : Fin 64) (c : Fin 64) (h : q.val * 64 + k.val < 128) :
    (after hostOps0_7 V (Proc.devRef .tc main_v88) : FVec Ideal S128x128 .f32) (ix2 ⟨q.val * 64 + k.val, h⟩ (pk p c)) = if q = p then w c k else 0 := by
  after_reads_at
  rw [pk_div, pk_mod, he, hw]
  exact pick q p _

/-- The doubled weights of the fourth layer for the features, the same numbers in the shorter type. -/
theorem h0_8_v89 (i : Fin 128) (j : Fin 128) : (after hostOps0_8 V (Proc.devRef .tc main_v89) : FVec Ideal S128x128 .bf16) (ix2 i j) = ((V (Proc.devRef .tc main_v88) : FVec Ideal S128x128 .f32) (ix2 i j) : EReal) := by
  after_reads_at

/-- The weights of the fourth layer for the maxima, transposed. -/
theorem h0_8_v91 (k : Fin 64) (c : Fin 64) : (after hostOps0_8 V (Proc.devRef .tc main_v91) : FVec Ideal S64x64 .f32) (ix2 k c)
    = (V (Proc.devRef .tc main_arg13) : FVec Ideal S64x128 .f32) (ix2 c ⟨64 + k.val, by have := k.isLt; omega⟩) := by
  after_reads_at

/-- The two-by-two unit matrix for the weights of the fourth layer for the maxima. -/
theorem h0_8_v97 (q p : Fin 2) : (after hostOps0_8 V (Proc.devRef .tc main_v97) : FVec Ideal S2x2 .f32) (ix2 q p) = if q = p then (1 : EReal) else 0 := by
  after_reads_at; exact eye q p

/-- The weights of the fourth layer for the maxima twice on the diagonal, zero elsewhere. -/
theorem h0_9_v98 (w : Fin 64 → Fin 64 → EReal) (he : ∀ q p, (V (Proc.devRef .tc main_v97) : FVec Ideal S2x2 .f32) (ix2 q p) = if q = p then (1 : EReal) else 0)
    (hw : ∀ k c, (V (Proc.devRef .tc main_v91) : FVec Ideal S64x64 .f32) (ix2 k c) = w c k) (q p : Fin 2) (k : Fin 64) (c : Fin 64) (h : q.val * 64 + k.val < 128) :
    (after hostOps0_9 V (Proc.devRef .tc main_v98) : FVec Ideal S128x128 .f32) (ix2 ⟨q.val * 64 + k.val, h⟩ (pk p c)) = if q = p then w c k else 0 := by
  after_reads_at
  rw [pk_div, pk_mod, he, hw]
  exact pick q p _

/-- The upper rows of the fourth layer's doubled weights are those for the features. -/
theorem h0_10_v100a (i j : Fin 128) : (after hostOps0_10 V (Proc.devRef .tc main_v100) : FVec Ideal S256x128 .bf16) (ix2 ⟨i.val, by have := i.isLt; omega⟩ j) = ((V (Proc.devRef .tc main_v89) : FVec Ideal S128x128 .bf16) (ix2 i j) : EReal) := by
  after_reads_at

/-- The lower rows of the fourth layer's doubled weights are those for the maxima. -/
theorem h0_10_v100b (i j : Fin 128) : (after hostOps0_10 V (Proc.devRef .tc main_v100) : FVec Ideal S256x128 .bf16) (ix2 ⟨128 + i.val, by have := i.isLt; omega⟩ j) = ((V (Proc.devRef .tc main_v98) : FVec Ideal S128x128 .f32) (ix2 i j) : EReal) := by
  after_reads_at

/-- The fifth layer's weights, transposed. -/
theorem h0_10_v101 (k : Fin 64) (c : Fin 64) : (after hostOps0_10 V (Proc.devRef .tc main_v101) : FVec Ideal S64x64 .f32) (ix2 k c)
    = (V (Proc.devRef .tc main_arg16) : FVec Ideal S64x64 .f32) (ix2 c k) := by
  after_reads_at

/-- The two-by-two unit matrix for the fifth layer's weights. -/
theorem h0_10_v107 (q p : Fin 2) : (after hostOps0_10 V (Proc.devRef .tc main_v107) : FVec Ideal S2x2 .f32) (ix2 q p) = if q = p then (1 : EReal) else 0 := by
  after_reads_at; exact eye q p

/-- The fifth layer's weights twice on the diagonal, zero elsewhere. -/
theorem h0_11_v108 (w : Fin 64 → Fin 64 → EReal) (he : ∀ q p, (V (Proc.devRef .tc main_v107) : FVec Ideal S2x2 .f32) (ix2 q p) = if q = p then (1 : EReal) else 0)
    (hw : ∀ k c, (V (Proc.devRef .tc main_v101) : FVec Ideal S64x64 .f32) (ix2 k c) = w c k) (q p : Fin 2) (k : Fin 64) (c : Fin 64) (h : q.val * 64 + k.val < 128) :
    (after hostOps0_11 V (Proc.devRef .tc main_v108) : FVec Ideal S128x128 .f32) (ix2 ⟨q.val * 64 + k.val, h⟩ (pk p c)) = if q = p then w c k else 0 := by
  after_reads_at
  rw [pk_div, pk_mod, he, hw]
  exact pick q p _

/-- The doubled fifth layer's weights, the same numbers in the shorter type. -/
theorem h0_12_v109 (i : Fin 128) (j : Fin 128) : (after hostOps0_12 V (Proc.devRef .tc main_v109) : FVec Ideal S128x128 .bf16) (ix2 i j) = ((V (Proc.devRef .tc main_v108) : FVec Ideal S128x128 .f32) (ix2 i j) : EReal) := by
  after_reads_at

/-- The first output layer's weights, transposed. -/
theorem h0_12_v110 (k : Fin 64) (c : Fin 64) : (after hostOps0_12 V (Proc.devRef .tc main_v110) : FVec Ideal S64x64 .f32) (ix2 k c)
    = (V (Proc.devRef .tc main_arg19) : FVec Ideal S64x64 .f32) (ix2 c k) := by
  after_reads_at

/-- The two-by-two unit matrix for the first output layer's weights. -/
theorem h0_12_v116 (q p : Fin 2) : (after hostOps0_12 V (Proc.devRef .tc main_v116) : FVec Ideal S2x2 .f32) (ix2 q p) = if q = p then (1 : EReal) else 0 := by
  after_reads_at; exact eye q p

/-- The first output layer's weights twice on the diagonal, zero elsewhere. -/
theorem h0_13_v117 (w : Fin 64 → Fin 64 → EReal) (he : ∀ q p, (V (Proc.devRef .tc main_v116) : FVec Ideal S2x2 .f32) (ix2 q p) = if q = p then (1 : EReal) else 0)
    (hw : ∀ k c, (V (Proc.devRef .tc main_v110) : FVec Ideal S64x64 .f32) (ix2 k c) = w c k) (q p : Fin 2) (k : Fin 64) (c : Fin 64) (h : q.val * 64 + k.val < 128) :
    (after hostOps0_13 V (Proc.devRef .tc main_v117) : FVec Ideal S128x128 .f32) (ix2 ⟨q.val * 64 + k.val, h⟩ (pk p c)) = if q = p then w c k else 0 := by
  after_reads_at
  rw [pk_div, pk_mod, he, hw]
  exact pick q p _

/-- The doubled first output layer's weights, the same numbers in the shorter type. -/
theorem h0_14_v118 (i : Fin 128) (j : Fin 128) : (after hostOps0_14 V (Proc.devRef .tc main_v118) : FVec Ideal S128x128 .bf16) (ix2 i j) = ((V (Proc.devRef .tc main_v117) : FVec Ideal S128x128 .f32) (ix2 i j) : EReal) := by
  after_reads_at

/-- The second output layer's weights, transposed. -/
theorem h0_14_v119 (k : Fin 64) (c : Fin 64) : (after hostOps0_14 V (Proc.devRef .tc main_v119) : FVec Ideal S64x64 .f32) (ix2 k c)
    = (V (Proc.devRef .tc main_arg21) : FVec Ideal S64x64 .f32) (ix2 c k) := by
  after_reads_at

/-- The two-by-two unit matrix for the second output layer's weights. -/
theorem h0_14_v125 (q p : Fin 2) : (after hostOps0_14 V (Proc.devRef .tc main_v125) : FVec Ideal S2x2 .f32) (ix2 q p) = if q = p then (1 : EReal) else 0 := by
  after_reads_at; exact eye q p

/-- The second output layer's weights twice on the diagonal, zero elsewhere. -/
theorem h0_15_v126 (w : Fin 64 → Fin 64 → EReal) (he : ∀ q p, (V (Proc.devRef .tc main_v125) : FVec Ideal S2x2 .f32) (ix2 q p) = if q = p then (1 : EReal) else 0)
    (hw : ∀ k c, (V (Proc.devRef .tc main_v119) : FVec Ideal S64x64 .f32) (ix2 k c) = w c k) (q p : Fin 2) (k : Fin 64) (c : Fin 64) (h : q.val * 64 + k.val < 128) :
    (after hostOps0_15 V (Proc.devRef .tc main_v126) : FVec Ideal S128x128 .f32) (ix2 ⟨q.val * 64 + k.val, h⟩ (pk p c)) = if q = p then w c k else 0 := by
  after_reads_at
  rw [pk_div, pk_mod, he, hw]
  exact pick q p _

/-- The doubled second output layer's weights, the same numbers in the shorter type. -/
theorem h0_16_v127 (i : Fin 128) (j : Fin 128) : (after hostOps0_16 V (Proc.devRef .tc main_v127) : FVec Ideal S128x128 .bf16) (ix2 i j) = ((V (Proc.devRef .tc main_v126) : FVec Ideal S128x128 .f32) (ix2 i j) : EReal) := by
  after_reads_at

/-- The first output layer's shift, once for each half. -/
theorem h0_16_v129 (p : Fin 2) (c : Fin 64) : (after hostOps0_16 V (Proc.devRef .tc main_v129) : FVec Ideal S1x128 .f32) (ix2 0 (pk p c)) = ((V (Proc.devRef .tc main_arg20) : FVec Ideal S64 .f32) (ix1 c) : EReal) := by
  obtain rfl | rfl : p = 0 ∨ p = 1 := by omega
  · rw [pk_zero]; after_reads_at; rfl
  · rw [pk_one]; after_reads_at; rfl

/-- The second output layer's shift, once for each half. -/
theorem h0_16_v131 (p : Fin 2) (c : Fin 64) : (after hostOps0_16 V (Proc.devRef .tc main_v131) : FVec Ideal S1x128 .f32) (ix2 0 (pk p c)) = ((V (Proc.devRef .tc main_arg22) : FVec Ideal S64 .f32) (ix1 c) : EReal) := by
  obtain rfl | rfl : p = 0 ∨ p = 1 := by omega
  · rw [pk_zero]; after_reads_at; rfl
  · rw [pk_one]; after_reads_at; rfl

/-- Which half a column belongs to. -/
theorem h0_16_v140 (q p : Fin 2) (c : Fin 64) : (after hostOps0_16 V (Proc.devRef .tc main_v140) : FVec Ideal S2x128 .bf16) (ix2 q (pk p c)) = if q = p then (1 : EReal) else 0 := by
  have lo : ∀ c : Fin 64, IntOp.cmpi CmpIPredicate.sge (BitVec.ofNat 32 c.val) 64#32 = 0#1 := by decide
  have hi : ∀ c : Fin 64, IntOp.cmpi CmpIPredicate.sge (BitVec.ofNat 32 (64 + c.val)) 64#32 = 1#1 := by decide
  obtain rfl | rfl : p = 0 ∨ p = 1 := by omega
  · obtain rfl | rfl : q = 0 ∨ q = 1 := by omega
    · rw [pk_zero]; after_reads_at; try after_reads_at
      rw [lo]; exact uitofp_one _
    · rw [pk_zero]; after_reads_at; try after_reads_at
      rw [lo]; exact uitofp_zero _
  · obtain rfl | rfl : q = 0 ∨ q = 1 := by omega
    · rw [pk_one]; after_reads_at; try after_reads_at
      rw [hi]; exact uitofp_zero _
    · rw [pk_one]; after_reads_at; try after_reads_at
      rw [hi]; exact uitofp_one _

end Cert.KernelIdeal.Host

end
-- ==== Proof.Base.lean ====
/- The arrays that stay as they are from the first pass on: what they hold, and that each later pass and host line keeps them. -/
module

public import proofs.«01_k».proof.Proof.HostA
public import proofs.«01_k».proof.Proof.Gen.KernelIdeal.Frame.Fold0

@[expose] public section

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Host Cert.Net

/-- An array's entry at a row and a column, as a number. -/
abbrev at2 {N K : ℕ} {φ : FTy} (a : FVec Ideal ⟨2, ![N, K]⟩ φ) (n : Fin N) (k : Fin K) : EReal := a (ix2 n k)

/-- A list's entry, as a number. -/
abbrev at1 {N : ℕ} {φ : FTy} (a : FVec Ideal ⟨1, ![N]⟩ φ) (n : Fin N) : EReal := a (ix1 n)

/-- The arrays meant. -/
abbrev baseRefs : List (Ref sig .tc) := [main_v33, main_v41, main_v52, main_v61, main_v70, main_v79, main_v100, main_v109, main_v118, main_v127, main_v129, main_v131, main_v140, main_arg5, main_arg6, main_arg8, main_arg9, main_arg11, main_arg12, main_arg14, main_arg15, main_arg17, main_arg18]

/-- What they hold. -/
structure Base (P : Params) (V : Valuation τ sig (Elt Ideal)) : Prop where
  v33 : ∀ (p : Fin 2) (n : Fin 131072) (k : Fin 5) (h : p.val * 5 + k.val < 10), at2 (N := 131072) (K := 10) (φ := .bf16) (V (Proc.devRef .tc main_v33)) n ⟨p.val * 5 + k.val, h⟩ = P.x (rw2 p n) k * P.v (rw2 p n)
  v41 : ∀ (p : Fin 2) (n : Fin 131072), at2 (N := 2) (K := 131072) (φ := .bf16) (V (Proc.devRef .tc main_v41)) p n = P.v (rw2 p n)
  v52 : ∀ (p : Fin 2) (g : Fin 2048), at2 (N := 2) (K := 2048) (φ := .bf16) (V (Proc.devRef .tc main_v52)) p g = P.u (ln2 p g)
  v61 : BDiag (at2 (N := 10) (K := 128) (φ := .bf16) (V (Proc.devRef .tc main_v61))) P.w0
  v70 : BDiag (at2 (N := 128) (K := 128) (φ := .bf16) (V (Proc.devRef .tc main_v70))) P.w1
  v79 : BDiag (at2 (N := 128) (K := 128) (φ := .bf16) (V (Proc.devRef .tc main_v79))) P.w2
  v100a : BDiag (fun (l j : Fin 128) => at2 (N := 256) (K := 128) (φ := .bf16) (V (Proc.devRef .tc main_v100)) ⟨l.val, by omega⟩ j) fun c (k : Fin 64) => P.w3 c ⟨k.val, by omega⟩
  v100b : BDiag (fun (l j : Fin 128) => at2 (N := 256) (K := 128) (φ := .bf16) (V (Proc.devRef .tc main_v100)) ⟨128 + l.val, by omega⟩ j) fun c (k : Fin 64) => P.w3 c ⟨64 + k.val, by omega⟩
  v109 : BDiag (at2 (N := 128) (K := 128) (φ := .bf16) (V (Proc.devRef .tc main_v109))) P.w4
  v118 : BDiag (at2 (N := 128) (K := 128) (φ := .bf16) (V (Proc.devRef .tc main_v118))) P.o0
  v127 : BDiag (at2 (N := 128) (K := 128) (φ := .bf16) (V (Proc.devRef .tc main_v127))) P.o1
  v129 : ∀ (p : Fin 2) (c : Fin 64), at2 (N := 1) (K := 128) (φ := .f32) (V (Proc.devRef .tc main_v129)) 0 (pk p c) = P.c0 c
  v131 : ∀ (p : Fin 2) (c : Fin 64), at2 (N := 1) (K := 128) (φ := .f32) (V (Proc.devRef .tc main_v131)) 0 (pk p c) = P.c1 c
  v140 : ∀ (q p : Fin 2) (c : Fin 64), at2 (N := 2) (K := 128) (φ := .bf16) (V (Proc.devRef .tc main_v140)) q (pk p c) = if q = p then 1 else 0
  g0 : ∀ c : Fin 64, at1 (N := 64) (φ := .f32) (V (Proc.devRef .tc main_arg5)) c = P.g0 c
  b0 : ∀ c : Fin 64, at1 (N := 64) (φ := .f32) (V (Proc.devRef .tc main_arg6)) c = P.b0 c
  g1 : ∀ c : Fin 64, at1 (N := 64) (φ := .f32) (V (Proc.devRef .tc main_arg8)) c = P.g1 c
  b1 : ∀ c : Fin 64, at1 (N := 64) (φ := .f32) (V (Proc.devRef .tc main_arg9)) c = P.b1 c
  g2 : ∀ c : Fin 64, at1 (N := 64) (φ := .f32) (V (Proc.devRef .tc main_arg11)) c = P.g2 c
  b2 : ∀ c : Fin 64, at1 (N := 64) (φ := .f32) (V (Proc.devRef .tc main_arg12)) c = P.b2 c
  g3 : ∀ c : Fin 64, at1 (N := 64) (φ := .f32) (V (Proc.devRef .tc main_arg14)) c = P.g3 c
  b3 : ∀ c : Fin 64, at1 (N := 64) (φ := .f32) (V (Proc.devRef .tc main_arg15)) c = P.b3 c
  g4 : ∀ c : Fin 64, at1 (N := 64) (φ := .f32) (V (Proc.devRef .tc main_arg17)) c = P.g4 c
  b4 : ∀ c : Fin 64, at1 (N := 64) (φ := .f32) (V (Proc.devRef .tc main_arg18)) c = P.b4 c

/-- Contents that agree on these arrays hold the same. -/
theorem Base.move {P : Params} {V V' : Valuation τ sig (Elt Ideal)} (b : Base P V)
    (e : ∀ r ∈ baseRefs, V' (Proc.devRef .tc r) = V (Proc.devRef .tc r)) : Base P V' where
  v33 := by rw [e main_v33 (by decide)]; exact b.v33
  v41 := by rw [e main_v41 (by decide)]; exact b.v41
  v52 := by rw [e main_v52 (by decide)]; exact b.v52
  v61 := by rw [e main_v61 (by decide)]; exact b.v61
  v70 := by rw [e main_v70 (by decide)]; exact b.v70
  v79 := by rw [e main_v79 (by decide)]; exact b.v79
  v100a := by rw [e main_v100 (by decide)]; exact b.v100a
  v100b := by rw [e main_v100 (by decide)]; exact b.v100b
  v109 := by rw [e main_v109 (by decide)]; exact b.v109
  v118 := by rw [e main_v118 (by decide)]; exact b.v118
  v127 := by rw [e main_v127 (by decide)]; exact b.v127
  v129 := by rw [e main_v129 (by decide)]; exact b.v129
  v131 := by rw [e main_v131 (by decide)]; exact b.v131
  v140 := by rw [e main_v140 (by decide)]; exact b.v140
  g0 := by rw [e main_arg5 (by decide)]; exact b.g0
  b0 := by rw [e main_arg6 (by decide)]; exact b.b0
  g1 := by rw [e main_arg8 (by decide)]; exact b.g1
  b1 := by rw [e main_arg9 (by decide)]; exact b.b1
  g2 := by rw [e main_arg11 (by decide)]; exact b.g2
  b2 := by rw [e main_arg12 (by decide)]; exact b.b2
  g3 := by rw [e main_arg14 (by decide)]; exact b.g3
  b3 := by rw [e main_arg15 (by decide)]; exact b.b3
  g4 := by rw [e main_arg17 (by decide)]; exact b.g4
  b4 := by rw [e main_arg18 (by decide)]; exact b.b4

variable (m : (ℓ : Loc nD τ sig) → Buf (Elt Ideal) ℓ) (ρ : Dev nD → PrngReg) (c : Dev nD)

/-- The network's inputs as the launch holds them. -/
def prm : Params := params (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-- The packed features are as first written when the first pass begins. -/
theorem keep_v33 : W17 m ρ c (Proc.devRef .tc main_v33) = W1 m ρ c (Proc.devRef .tc main_v33) := (W17_of m ρ c main_v33 (by decide)).trans ((W16_of m ρ c main_v33 (by decide)).trans ((W15_of m ρ c main_v33 (by decide)).trans ((W14_of m ρ c main_v33 (by decide)).trans ((W13_of m ρ c main_v33 (by decide)).trans ((W12_of m ρ c main_v33 (by decide)).trans ((W11_of m ρ c main_v33 (by decide)).trans ((W10_of m ρ c main_v33 (by decide)).trans ((W9_of m ρ c main_v33 (by decide)).trans ((W8_of m ρ c main_v33 (by decide)).trans ((W7_of m ρ c main_v33 (by decide)).trans ((W6_of m ρ c main_v33 (by decide)).trans ((W5_of m ρ c main_v33 (by decide)).trans ((W4_of m ρ c main_v33 (by decide)).trans ((W3_of m ρ c main_v33 (by decide)).trans (W2_of m ρ c main_v33 (by decide))))))))))))))))
/-- The row mask in halves is as first written when the first pass begins. -/
theorem keep_v41 : W17 m ρ c (Proc.devRef .tc main_v41) = W1 m ρ c (Proc.devRef .tc main_v41) := (W17_of m ρ c main_v41 (by decide)).trans ((W16_of m ρ c main_v41 (by decide)).trans ((W15_of m ρ c main_v41 (by decide)).trans ((W14_of m ρ c main_v41 (by decide)).trans ((W13_of m ρ c main_v41 (by decide)).trans ((W12_of m ρ c main_v41 (by decide)).trans ((W11_of m ρ c main_v41 (by decide)).trans ((W10_of m ρ c main_v41 (by decide)).trans ((W9_of m ρ c main_v41 (by decide)).trans ((W8_of m ρ c main_v41 (by decide)).trans ((W7_of m ρ c main_v41 (by decide)).trans ((W6_of m ρ c main_v41 (by decide)).trans ((W5_of m ρ c main_v41 (by decide)).trans ((W4_of m ρ c main_v41 (by decide)).trans ((W3_of m ρ c main_v41 (by decide)).trans (W2_of m ρ c main_v41 (by decide))))))))))))))))
/-- The lane mask in halves is as first written when the first pass begins. -/
theorem keep_v52 : W17 m ρ c (Proc.devRef .tc main_v52) = W1 m ρ c (Proc.devRef .tc main_v52) := (W17_of m ρ c main_v52 (by decide)).trans ((W16_of m ρ c main_v52 (by decide)).trans ((W15_of m ρ c main_v52 (by decide)).trans ((W14_of m ρ c main_v52 (by decide)).trans ((W13_of m ρ c main_v52 (by decide)).trans ((W12_of m ρ c main_v52 (by decide)).trans ((W11_of m ρ c main_v52 (by decide)).trans ((W10_of m ρ c main_v52 (by decide)).trans ((W9_of m ρ c main_v52 (by decide)).trans ((W8_of m ρ c main_v52 (by decide)).trans ((W7_of m ρ c main_v52 (by decide)).trans ((W6_of m ρ c main_v52 (by decide)).trans ((W5_of m ρ c main_v52 (by decide)).trans ((W4_of m ρ c main_v52 (by decide)).trans ((W3_of m ρ c main_v52 (by decide)).trans (W2_of m ρ c main_v52 (by decide))))))))))))))))
/-- The first layer's doubled weights are as first written when the first pass begins. -/
theorem keep_v61 : W17 m ρ c (Proc.devRef .tc main_v61) = W3 m ρ c (Proc.devRef .tc main_v61) := (W17_of m ρ c main_v61 (by decide)).trans ((W16_of m ρ c main_v61 (by decide)).trans ((W15_of m ρ c main_v61 (by decide)).trans ((W14_of m ρ c main_v61 (by decide)).trans ((W13_of m ρ c main_v61 (by decide)).trans ((W12_of m ρ c main_v61 (by decide)).trans ((W11_of m ρ c main_v61 (by decide)).trans ((W10_of m ρ c main_v61 (by decide)).trans ((W9_of m ρ c main_v61 (by decide)).trans ((W8_of m ρ c main_v61 (by decide)).trans ((W7_of m ρ c main_v61 (by decide)).trans ((W6_of m ρ c main_v61 (by decide)).trans ((W5_of m ρ c main_v61 (by decide)).trans (W4_of m ρ c main_v61 (by decide))))))))))))))
/-- The second layer's doubled weights are as first written when the first pass begins. -/
theorem keep_v70 : W17 m ρ c (Proc.devRef .tc main_v70) = W5 m ρ c (Proc.devRef .tc main_v70) := (W17_of m ρ c main_v70 (by decide)).trans ((W16_of m ρ c main_v70 (by decide)).trans ((W15_of m ρ c main_v70 (by decide)).trans ((W14_of m ρ c main_v70 (by decide)).trans ((W13_of m ρ c main_v70 (by decide)).trans ((W12_of m ρ c main_v70 (by decide)).trans ((W11_of m ρ c main_v70 (by decide)).trans ((W10_of m ρ c main_v70 (by decide)).trans ((W9_of m ρ c main_v70 (by decide)).trans ((W8_of m ρ c main_v70 (by decide)).trans ((W7_of m ρ c main_v70 (by decide)).trans (W6_of m ρ c main_v70 (by decide))))))))))))
/-- The third layer's doubled weights are as first written when the first pass begins. -/
theorem keep_v79 : W17 m ρ c (Proc.devRef .tc main_v79) = W7 m ρ c (Proc.devRef .tc main_v79) := (W17_of m ρ c main_v79 (by decide)).trans ((W16_of m ρ c main_v79 (by decide)).trans ((W15_of m ρ c main_v79 (by decide)).trans ((W14_of m ρ c main_v79 (by decide)).trans ((W13_of m ρ c main_v79 (by decide)).trans ((W12_of m ρ c main_v79 (by decide)).trans ((W11_of m ρ c main_v79 (by decide)).trans ((W10_of m ρ c main_v79 (by decide)).trans ((W9_of m ρ c main_v79 (by decide)).trans (W8_of m ρ c main_v79 (by decide))))))))))
/-- The fourth layer's doubled weights are as first written when the first pass begins. -/
theorem keep_v100 : W17 m ρ c (Proc.devRef .tc main_v100) = W11 m ρ c (Proc.devRef .tc main_v100) := (W17_of m ρ c main_v100 (by decide)).trans ((W16_of m ρ c main_v100 (by decide)).trans ((W15_of m ρ c main_v100 (by decide)).trans ((W14_of m ρ c main_v100 (by decide)).trans ((W13_of m ρ c main_v100 (by decide)).trans (W12_of m ρ c main_v100 (by decide))))))
/-- The fifth layer's doubled weights are as first written when the first pass begins. -/
theorem keep_v109 : W17 m ρ c (Proc.devRef .tc main_v109) = W13 m ρ c (Proc.devRef .tc main_v109) := (W17_of m ρ c main_v109 (by decide)).trans ((W16_of m ρ c main_v109 (by decide)).trans ((W15_of m ρ c main_v109 (by decide)).trans (W14_of m ρ c main_v109 (by decide))))
/-- The first output layer's doubled weights are as first written when the first pass begins. -/
theorem keep_v118 : W17 m ρ c (Proc.devRef .tc main_v118) = W15 m ρ c (Proc.devRef .tc main_v118) := (W17_of m ρ c main_v118 (by decide)).trans (W16_of m ρ c main_v118 (by decide))
/-- The upper half of the fourth layer's doubled weights stays as written until it is joined with the lower. -/
theorem keep_v89 : W10 m ρ c (Proc.devRef .tc main_v89) = W9 m ρ c (Proc.devRef .tc main_v89) := W10_of m ρ c main_v89 (by decide)

/-- The weights of a layer, one copy for each half. -/
theorem k60 (q p : Fin 2) (k : Fin 5) (c' : Fin 64) (h : q.val * 5 + k.val < 10) :
    at2 (N := 10) (K := 128) (φ := .f32) (W2 m ρ c (Proc.devRef .tc main_v60)) ⟨q.val * 5 + k.val, h⟩ (pk p c') = if q = p then (prm m c).w0 c' k else 0 :=
  h0_1_v60 (W1 m ρ c) (fun c' k => (prm m c).w0 c' k) (h0_v59 (W0 m ρ c))
    (fun k c' => (h0_v53 (W0 m ρ c) k c').trans (congrArg (fun a : FVec Ideal ⟨2, ![64, 5]⟩ .f32 => (a (ix2 c' k) : EReal)) (W0_args m ρ c main_arg4 (by decide)))) q p k c' h

/-- The weights of a layer, one copy for each half. -/
theorem k69 (q p : Fin 2) (k : Fin 64) (c' : Fin 64) (h : q.val * 64 + k.val < 128) :
    at2 (N := 128) (K := 128) (φ := .f32) (W4 m ρ c (Proc.devRef .tc main_v69)) ⟨q.val * 64 + k.val, h⟩ (pk p c') = if q = p then (prm m c).w1 c' k else 0 :=
  h0_3_v69 (W3 m ρ c) (fun c' k => (prm m c).w1 c' k) (h0_2_v68 (W2 m ρ c))
    (fun k c' => (h0_2_v62 (W2 m ρ c) k c').trans (congrArg (fun a : FVec Ideal ⟨2, ![64, 64]⟩ .f32 => (a (ix2 c' k) : EReal)) (W2_args m ρ c main_arg7 (by decide)))) q p k c' h

/-- The weights of a layer, one copy for each half. -/
theorem k78 (q p : Fin 2) (k : Fin 64) (c' : Fin 64) (h : q.val * 64 + k.val < 128) :
    at2 (N := 128) (K := 128) (φ := .f32) (W6 m ρ c (Proc.devRef .tc main_v78)) ⟨q.val * 64 + k.val, h⟩ (pk p c') = if q = p then (prm m c).w2 c' k else 0 :=
  h0_5_v78 (W5 m ρ c) (fun c' k => (prm m c).w2 c' k) (h0_4_v77 (W4 m ρ c))
    (fun k c' => (h0_4_v71 (W4 m ρ c) k c').trans (congrArg (fun a : FVec Ideal ⟨2, ![64, 64]⟩ .f32 => (a (ix2 c' k) : EReal)) (W4_args m ρ c main_arg10 (by decide)))) q p k c' h

/-- The weights of a layer, one copy for each half. -/
theorem k88 (q p : Fin 2) (k : Fin 64) (c' : Fin 64) (h : q.val * 64 + k.val < 128) :
    at2 (N := 128) (K := 128) (φ := .f32) (W8 m ρ c (Proc.devRef .tc main_v88)) ⟨q.val * 64 + k.val, h⟩ (pk p c') = if q = p then (prm m c).w3 c' ⟨k.val, by omega⟩ else 0 :=
  h0_7_v88 (W7 m ρ c) (fun c' k => (prm m c).w3 c' ⟨k.val, by omega⟩) (h0_6_v87 (W6 m ρ c))
    (fun k c' => (h0_6_v81 (W6 m ρ c) k c').trans (congrArg (fun a : FVec Ideal ⟨2, ![64, 128]⟩ .f32 => (a (ix2 c' ⟨k.val, by omega⟩) : EReal)) (W6_args m ρ c main_arg13 (by decide)))) q p k c' h

/-- The weights of a layer, one copy for each half. -/
theorem k98 (q p : Fin 2) (k : Fin 64) (c' : Fin 64) (h : q.val * 64 + k.val < 128) :
    at2 (N := 128) (K := 128) (φ := .f32) (W10 m ρ c (Proc.devRef .tc main_v98)) ⟨q.val * 64 + k.val, h⟩ (pk p c') = if q = p then (prm m c).w3 c' ⟨64 + k.val, by omega⟩ else 0 :=
  h0_9_v98 (W9 m ρ c) (fun c' k => (prm m c).w3 c' ⟨64 + k.val, by omega⟩) (h0_8_v97 (W8 m ρ c))
    (fun k c' => (h0_8_v91 (W8 m ρ c) k c').trans (congrArg (fun a : FVec Ideal ⟨2, ![64, 128]⟩ .f32 => (a (ix2 c' ⟨64 + k.val, by omega⟩) : EReal)) (W8_args m ρ c main_arg13 (by decide)))) q p k c' h

/-- The weights of a layer, one copy for each half. -/
theorem k108 (q p : Fin 2) (k : Fin 64) (c' : Fin 64) (h : q.val * 64 + k.val < 128) :
    at2 (N := 128) (K := 128) (φ := .f32) (W12 m ρ c (Proc.devRef .tc main_v108)) ⟨q.val * 64 + k.val, h⟩ (pk p c') = if q = p then (prm m c).w4 c' k else 0 :=
  h0_11_v108 (W11 m ρ c) (fun c' k => (prm m c).w4 c' k) (h0_10_v107 (W10 m ρ c))
    (fun k c' => (h0_10_v101 (W10 m ρ c) k c').trans (congrArg (fun a : FVec Ideal ⟨2, ![64, 64]⟩ .f32 => (a (ix2 c' k) : EReal)) (W10_args m ρ c main_arg16 (by decide)))) q p k c' h

/-- The weights of a layer, one copy for each half. -/
theorem k117 (q p : Fin 2) (k : Fin 64) (c' : Fin 64) (h : q.val * 64 + k.val < 128) :
    at2 (N := 128) (K := 128) (φ := .f32) (W14 m ρ c (Proc.devRef .tc main_v117)) ⟨q.val * 64 + k.val, h⟩ (pk p c') = if q = p then (prm m c).o0 c' k else 0 :=
  h0_13_v117 (W13 m ρ c) (fun c' k => (prm m c).o0 c' k) (h0_12_v116 (W12 m ρ c))
    (fun k c' => (h0_12_v110 (W12 m ρ c) k c').trans (congrArg (fun a : FVec Ideal ⟨2, ![64, 64]⟩ .f32 => (a (ix2 c' k) : EReal)) (W12_args m ρ c main_arg19 (by decide)))) q p k c' h

/-- The weights of a layer, one copy for each half. -/
theorem k126 (q p : Fin 2) (k : Fin 64) (c' : Fin 64) (h : q.val * 64 + k.val < 128) :
    at2 (N := 128) (K := 128) (φ := .f32) (W16 m ρ c (Proc.devRef .tc main_v126)) ⟨q.val * 64 + k.val, h⟩ (pk p c') = if q = p then (prm m c).o1 c' k else 0 :=
  h0_15_v126 (W15 m ρ c) (fun c' k => (prm m c).o1 c' k) (h0_14_v125 (W14 m ρ c))
    (fun k c' => (h0_14_v119 (W14 m ρ c) k c').trans (congrArg (fun a : FVec Ideal ⟨2, ![64, 64]⟩ .f32 => (a (ix2 c' k) : EReal)) (W14_args m ρ c main_arg21 (by decide)))) q p k c' h

/-- They are so before the first pass. -/
theorem base17 : Base (prm m c) (W17 m ρ c) where
  v33 := fun p n k h => by rw [keep_v33]; exact h0_v33 (W0 m ρ c) p n k h
  v41 := fun p n => by rw [keep_v41]; exact h0_v41 (W0 m ρ c) p n
  v52 := fun p n => by rw [keep_v52]; exact h0_v52 (W0 m ρ c) p n
  v61 := fun q p k c' h => by rw [keep_v61]; exact (h0_2_v61 (W2 m ρ c) _ _).trans (k60 m ρ c q p k c' h)
  v70 := fun q p k c' h => by rw [keep_v70]; exact (h0_4_v70 (W4 m ρ c) _ _).trans (k69 m ρ c q p k c' h)
  v79 := fun q p k c' h => by rw [keep_v79]; exact (h0_6_v79 (W6 m ρ c) _ _).trans (k78 m ρ c q p k c' h)
  v100a := fun q p k c' h => by rw [keep_v100]; exact (h0_10_v100a (W10 m ρ c) _ _).trans (by rw [keep_v89]; exact (h0_8_v89 (W8 m ρ c) _ _).trans (k88 m ρ c q p k c' h))
  v100b := fun q p k c' h => by rw [keep_v100]; exact (h0_10_v100b (W10 m ρ c) _ _).trans (k98 m ρ c q p k c' h)
  v109 := fun q p k c' h => by rw [keep_v109]; exact (h0_12_v109 (W12 m ρ c) _ _).trans (k108 m ρ c q p k c' h)
  v118 := fun q p k c' h => by rw [keep_v118]; exact (h0_14_v118 (W14 m ρ c) _ _).trans (k117 m ρ c q p k c' h)
  v127 := fun q p k c' h => by exact (h0_16_v127 (W16 m ρ c) _ _).trans (k126 m ρ c q p k c' h)
  v129 := fun p c' => (h0_16_v129 (W16 m ρ c) p c').trans (congrArg (fun a : FVec Ideal ⟨1, ![64]⟩ .f32 => (a (ix1 c') : EReal)) (W16_args m ρ c main_arg20 (by decide)))
  v131 := fun p c' => (h0_16_v131 (W16 m ρ c) p c').trans (congrArg (fun a : FVec Ideal ⟨1, ![64]⟩ .f32 => (a (ix1 c') : EReal)) (W16_args m ρ c main_arg22 (by decide)))
  v140 := fun q p c' => h0_16_v140 (W16 m ρ c) q p c'
  g0 := fun c' => congrArg (fun a : FVec Ideal ⟨1, ![64]⟩ .f32 => (a (ix1 c') : EReal)) (W17_args m ρ c main_arg5 (by decide))
  b0 := fun c' => congrArg (fun a : FVec Ideal ⟨1, ![64]⟩ .f32 => (a (ix1 c') : EReal)) (W17_args m ρ c main_arg6 (by decide))
  g1 := fun c' => congrArg (fun a : FVec Ideal ⟨1, ![64]⟩ .f32 => (a (ix1 c') : EReal)) (W17_args m ρ c main_arg8 (by decide))
  b1 := fun c' => congrArg (fun a : FVec Ideal ⟨1, ![64]⟩ .f32 => (a (ix1 c') : EReal)) (W17_args m ρ c main_arg9 (by decide))
  g2 := fun c' => congrArg (fun a : FVec Ideal ⟨1, ![64]⟩ .f32 => (a (ix1 c') : EReal)) (W17_args m ρ c main_arg11 (by decide))
  b2 := fun c' => congrArg (fun a : FVec Ideal ⟨1, ![64]⟩ .f32 => (a (ix1 c') : EReal)) (W17_args m ρ c main_arg12 (by decide))
  g3 := fun c' => congrArg (fun a : FVec Ideal ⟨1, ![64]⟩ .f32 => (a (ix1 c') : EReal)) (W17_args m ρ c main_arg14 (by decide))
  b3 := fun c' => congrArg (fun a : FVec Ideal ⟨1, ![64]⟩ .f32 => (a (ix1 c') : EReal)) (W17_args m ρ c main_arg15 (by decide))
  g4 := fun c' => congrArg (fun a : FVec Ideal ⟨1, ![64]⟩ .f32 => (a (ix1 c') : EReal)) (W17_args m ρ c main_arg17 (by decide))
  b4 := fun c' => congrArg (fun a : FVec Ideal ⟨1, ![64]⟩ .f32 => (a (ix1 c') : EReal)) (W17_args m ρ c main_arg18 (by decide))

/-- The first pass writes none of these arrays. -/
theorem in0 : ∀ a ∈ baseRefs, ∀ w : Fin cfg0.W, Pipeline.arrRef spec0 w = a → (cfg0.win w).isOut = false := ListAll.forall_mem_of_all_decide (by decide +kernel)
/-- The second pass writes none of these arrays. -/
theorem in1 : ∀ a ∈ baseRefs, ∀ w : Fin cfg1.W, Pipeline.arrRef spec1 w = a → (cfg1.win w).isOut = false := ListAll.forall_mem_of_all_decide (by decide +kernel)
/-- The third pass writes none of these arrays. -/
theorem in2 : ∀ a ∈ baseRefs, ∀ w : Fin cfg2.W, Pipeline.arrRef spec2 w = a → (cfg2.win w).isOut = false := ListAll.forall_mem_of_all_decide (by decide +kernel)
/-- The fourth pass writes none of these arrays. -/
theorem in3 : ∀ a ∈ baseRefs, ∀ w : Fin cfg3.W, Pipeline.arrRef spec3 w = a → (cfg3.win w).isOut = false := ListAll.forall_mem_of_all_decide (by decide +kernel)
/-- The fifth pass writes none of these arrays. -/
theorem in4 : ∀ a ∈ baseRefs, ∀ w : Fin cfg4.W, Pipeline.arrRef spec4 w = a → (cfg4.win w).isOut = false := ListAll.forall_mem_of_all_decide (by decide +kernel)
/-- The last pass writes none of these arrays. -/
theorem in5 : ∀ a ∈ baseRefs, ∀ w : Fin cfg5.W, Pipeline.arrRef spec5 w = a → (cfg5.win w).isOut = false := ListAll.forall_mem_of_all_decide (by decide +kernel)
/-- The host lines after the first pass write none of these arrays. -/
theorem out1 : ∀ a ∈ baseRefs, a ∉ hostOps1_W := ListAll.forall_mem_of_all_decide (by decide +kernel)
/-- The host lines after the second pass write none of these arrays. -/
theorem out2 : ∀ a ∈ baseRefs, a ∉ hostOps2_W := ListAll.forall_mem_of_all_decide (by decide +kernel)
/-- The host lines after the third pass write none of these arrays. -/
theorem out3 : ∀ a ∈ baseRefs, a ∉ hostOps3_W := ListAll.forall_mem_of_all_decide (by decide +kernel)
/-- The host lines after the fourth pass write none of these arrays. -/
theorem out4 : ∀ a ∈ baseRefs, a ∉ hostOps4_W := ListAll.forall_mem_of_all_decide (by decide +kernel)
/-- The host lines after the fifth pass write none of these arrays. -/
theorem out5 : ∀ a ∈ baseRefs, a ∉ hostOps5_W := ListAll.forall_mem_of_all_decide (by decide +kernel)
/-- They are so after the first pass. -/
theorem base18 : Base (prm m c) (W18 m ρ c) := (base17 m ρ c).move fun r h => W18_of m ρ c r (in0 r h)
/-- They are so when the second pass begins. -/
theorem base19 : Base (prm m c) (W19 m ρ c) := (base18 m ρ c).move fun r h => W19_of m ρ c r (out1 r h)
/-- They are so after the second pass. -/
theorem base20 : Base (prm m c) (W20 m ρ c) := (base19 m ρ c).move fun r h => W20_of m ρ c r (in1 r h)
/-- They are so when the third pass begins. -/
theorem base21 : Base (prm m c) (W21 m ρ c) := (base20 m ρ c).move fun r h => W21_of m ρ c r (out2 r h)
/-- They are so after the third pass. -/
theorem base22 : Base (prm m c) (W22 m ρ c) := (base21 m ρ c).move fun r h => W22_of m ρ c r (in2 r h)
/-- They are so when the fourth pass begins. -/
theorem base23 : Base (prm m c) (W23 m ρ c) := (base22 m ρ c).move fun r h => W23_of m ρ c r (out3 r h)
/-- They are so after the fourth pass. -/
theorem base24 : Base (prm m c) (W24 m ρ c) := (base23 m ρ c).move fun r h => W24_of m ρ c r (in3 r h)
/-- They are so when the fifth pass begins. -/
theorem base25 : Base (prm m c) (W25 m ρ c) := (base24 m ρ c).move fun r h => W25_of m ρ c r (out4 r h)
/-- They are so after the fifth pass. -/
theorem base26 : Base (prm m c) (W26 m ρ c) := (base25 m ρ c).move fun r h => W26_of m ρ c r (in4 r h)
/-- They are so when the last pass begins. -/
theorem base27 : Base (prm m c) (W27 m ρ c) := (base26 m ρ c).move fun r h => W27_of m ρ c r (out5 r h)
/-- They are so after the last pass. -/
theorem base28 : Base (prm m c) (W28 m ρ c) := (base27 m ρ c).move fun r h => W28_of m ρ c r (in5 r h)

end Cert.KernelIdeal.Chain

end
-- ==== Proof.HostB.lean ====
/- What the host lines between the passes leave: the affine form of a layer, and the result after the last pass. -/
module

public import proofs.«01_k».proof.Proof.Gen.KernelIdeal.Launch
public import proofs.«01_k».proof.Proof.HostA
public import Idealize.ShloMosaic.Lib.StableHlo.ReadAt

@[expose] public section

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Net

variable (V : Valuation τ sig (Elt Ideal))

/-- The number of rows that count, at least one. -/
theorem h1_v143 (j : S_.Idx) : (after hostOps1 V (Proc.devRef .tc main_v143) : FVec Ideal S_ .f32) j = Max.max (α := EReal) ((V (Proc.devRef .tc main_v141_2) : FVec Ideal S1x1 .f32) (ix2 0 0)) 1 := by
  after_reads_at

/-- After the first pass, the factor of the first layer's affine form from the two halves' sums. -/
theorem h1_v167 (p : Fin 2) (c : Fin 64) : (after hostOps1 V (Proc.devRef .tc main_v167) : FVec Ideal S1x128 .f32) (ix2 0 (pk p c))
    = affA (HAdd.hAdd (α := EReal) (β := EReal) (γ := EReal) ((V (Proc.devRef .tc main_v141_0) : FVec Ideal S1x128 .f32) (ix2 0 (pk 0 c))) ((V (Proc.devRef .tc main_v141_0) : FVec Ideal S1x128 .f32) (ix2 0 (pk 1 c)))) (HAdd.hAdd (α := EReal) (β := EReal) (γ := EReal) ((V (Proc.devRef .tc main_v141_1) : FVec Ideal S1x128 .f32) (ix2 0 (pk 0 c))) ((V (Proc.devRef .tc main_v141_1) : FVec Ideal S1x128 .f32) (ix2 0 (pk 1 c))))
      (max ((V (Proc.devRef .tc main_v141_2) : FVec Ideal S1x1 .f32) (ix2 0 0)) 1) ((V (Proc.devRef .tc main_arg5) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- After the first pass, the offset of the first layer's affine form from the two halves' sums. -/
theorem h1_v169 (p : Fin 2) (c : Fin 64) : (after hostOps1 V (Proc.devRef .tc main_v169) : FVec Ideal S1x128 .f32) (ix2 0 (pk p c))
    = affD (HAdd.hAdd (α := EReal) (β := EReal) (γ := EReal) ((V (Proc.devRef .tc main_v141_0) : FVec Ideal S1x128 .f32) (ix2 0 (pk 0 c))) ((V (Proc.devRef .tc main_v141_0) : FVec Ideal S1x128 .f32) (ix2 0 (pk 1 c)))) (HAdd.hAdd (α := EReal) (β := EReal) (γ := EReal) ((V (Proc.devRef .tc main_v141_1) : FVec Ideal S1x128 .f32) (ix2 0 (pk 0 c))) ((V (Proc.devRef .tc main_v141_1) : FVec Ideal S1x128 .f32) (ix2 0 (pk 1 c))))
      (max ((V (Proc.devRef .tc main_v141_2) : FVec Ideal S1x1 .f32) (ix2 0 0)) 1) ((V (Proc.devRef .tc main_arg5) : FVec Ideal S64 .f32) (ix1 c)) ((V (Proc.devRef .tc main_arg6) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- After the second pass, the factor of the second layer's affine form from the two halves' sums. -/
theorem h2_v194 (p : Fin 2) (c : Fin 64) : (after hostOps2 V (Proc.devRef .tc main_v194) : FVec Ideal S1x128 .f32) (ix2 0 (pk p c))
    = affA (HAdd.hAdd (α := EReal) (β := EReal) (γ := EReal) ((V (Proc.devRef .tc main_v170_1) : FVec Ideal S1x128 .f32) (ix2 0 (pk 0 c))) ((V (Proc.devRef .tc main_v170_1) : FVec Ideal S1x128 .f32) (ix2 0 (pk 1 c)))) (HAdd.hAdd (α := EReal) (β := EReal) (γ := EReal) ((V (Proc.devRef .tc main_v170_2) : FVec Ideal S1x128 .f32) (ix2 0 (pk 0 c))) ((V (Proc.devRef .tc main_v170_2) : FVec Ideal S1x128 .f32) (ix2 0 (pk 1 c))))
      ((V (Proc.devRef .tc main_v143) : FVec Ideal S_ .f32) ix0) ((V (Proc.devRef .tc main_arg8) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- After the second pass, the offset of the second layer's affine form from the two halves' sums. -/
theorem h2_v196 (p : Fin 2) (c : Fin 64) : (after hostOps2 V (Proc.devRef .tc main_v196) : FVec Ideal S1x128 .f32) (ix2 0 (pk p c))
    = affD (HAdd.hAdd (α := EReal) (β := EReal) (γ := EReal) ((V (Proc.devRef .tc main_v170_1) : FVec Ideal S1x128 .f32) (ix2 0 (pk 0 c))) ((V (Proc.devRef .tc main_v170_1) : FVec Ideal S1x128 .f32) (ix2 0 (pk 1 c)))) (HAdd.hAdd (α := EReal) (β := EReal) (γ := EReal) ((V (Proc.devRef .tc main_v170_2) : FVec Ideal S1x128 .f32) (ix2 0 (pk 0 c))) ((V (Proc.devRef .tc main_v170_2) : FVec Ideal S1x128 .f32) (ix2 0 (pk 1 c))))
      ((V (Proc.devRef .tc main_v143) : FVec Ideal S_ .f32) ix0) ((V (Proc.devRef .tc main_arg8) : FVec Ideal S64 .f32) (ix1 c)) ((V (Proc.devRef .tc main_arg9) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- After the third pass, the factor of the third layer's affine form from the two halves' sums. -/
theorem h3_v221 (p : Fin 2) (c : Fin 64) : (after hostOps3 V (Proc.devRef .tc main_v221) : FVec Ideal S1x128 .f32) (ix2 0 (pk p c))
    = affA (HAdd.hAdd (α := EReal) (β := EReal) (γ := EReal) ((V (Proc.devRef .tc main_v197_1) : FVec Ideal S1x128 .f32) (ix2 0 (pk 0 c))) ((V (Proc.devRef .tc main_v197_1) : FVec Ideal S1x128 .f32) (ix2 0 (pk 1 c)))) (HAdd.hAdd (α := EReal) (β := EReal) (γ := EReal) ((V (Proc.devRef .tc main_v197_2) : FVec Ideal S1x128 .f32) (ix2 0 (pk 0 c))) ((V (Proc.devRef .tc main_v197_2) : FVec Ideal S1x128 .f32) (ix2 0 (pk 1 c))))
      ((V (Proc.devRef .tc main_v143) : FVec Ideal S_ .f32) ix0) ((V (Proc.devRef .tc main_arg11) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- After the third pass, the offset of the third layer's affine form from the two halves' sums. -/
theorem h3_v223 (p : Fin 2) (c : Fin 64) : (after hostOps3 V (Proc.devRef .tc main_v223) : FVec Ideal S1x128 .f32) (ix2 0 (pk p c))
    = affD (HAdd.hAdd (α := EReal) (β := EReal) (γ := EReal) ((V (Proc.devRef .tc main_v197_1) : FVec Ideal S1x128 .f32) (ix2 0 (pk 0 c))) ((V (Proc.devRef .tc main_v197_1) : FVec Ideal S1x128 .f32) (ix2 0 (pk 1 c)))) (HAdd.hAdd (α := EReal) (β := EReal) (γ := EReal) ((V (Proc.devRef .tc main_v197_2) : FVec Ideal S1x128 .f32) (ix2 0 (pk 0 c))) ((V (Proc.devRef .tc main_v197_2) : FVec Ideal S1x128 .f32) (ix2 0 (pk 1 c))))
      ((V (Proc.devRef .tc main_v143) : FVec Ideal S_ .f32) ix0) ((V (Proc.devRef .tc main_arg11) : FVec Ideal S64 .f32) (ix1 c)) ((V (Proc.devRef .tc main_arg12) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- After the fourth pass, the factor of the fourth layer's affine form from the two halves' sums. -/
theorem h4_v248 (p : Fin 2) (c : Fin 64) : (after hostOps4 V (Proc.devRef .tc main_v248) : FVec Ideal S1x128 .f32) (ix2 0 (pk p c))
    = affA (HAdd.hAdd (α := EReal) (β := EReal) (γ := EReal) ((V (Proc.devRef .tc main_v224_2) : FVec Ideal S1x128 .f32) (ix2 0 (pk 0 c))) ((V (Proc.devRef .tc main_v224_2) : FVec Ideal S1x128 .f32) (ix2 0 (pk 1 c)))) (HAdd.hAdd (α := EReal) (β := EReal) (γ := EReal) ((V (Proc.devRef .tc main_v224_3) : FVec Ideal S1x128 .f32) (ix2 0 (pk 0 c))) ((V (Proc.devRef .tc main_v224_3) : FVec Ideal S1x128 .f32) (ix2 0 (pk 1 c))))
      ((V (Proc.devRef .tc main_v143) : FVec Ideal S_ .f32) ix0) ((V (Proc.devRef .tc main_arg14) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- After the fourth pass, the offset of the fourth layer's affine form from the two halves' sums. -/
theorem h4_v250 (p : Fin 2) (c : Fin 64) : (after hostOps4 V (Proc.devRef .tc main_v250) : FVec Ideal S1x128 .f32) (ix2 0 (pk p c))
    = affD (HAdd.hAdd (α := EReal) (β := EReal) (γ := EReal) ((V (Proc.devRef .tc main_v224_2) : FVec Ideal S1x128 .f32) (ix2 0 (pk 0 c))) ((V (Proc.devRef .tc main_v224_2) : FVec Ideal S1x128 .f32) (ix2 0 (pk 1 c)))) (HAdd.hAdd (α := EReal) (β := EReal) (γ := EReal) ((V (Proc.devRef .tc main_v224_3) : FVec Ideal S1x128 .f32) (ix2 0 (pk 0 c))) ((V (Proc.devRef .tc main_v224_3) : FVec Ideal S1x128 .f32) (ix2 0 (pk 1 c))))
      ((V (Proc.devRef .tc main_v143) : FVec Ideal S_ .f32) ix0) ((V (Proc.devRef .tc main_arg14) : FVec Ideal S64 .f32) (ix1 c)) ((V (Proc.devRef .tc main_arg15) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- After the fifth pass, the factor of the fifth layer's affine form from the two halves' sums. -/
theorem h5_v275 (p : Fin 2) (c : Fin 64) : (after hostOps5 V (Proc.devRef .tc main_v275) : FVec Ideal S1x128 .f32) (ix2 0 (pk p c))
    = affA (HAdd.hAdd (α := EReal) (β := EReal) (γ := EReal) ((V (Proc.devRef .tc main_v251_1) : FVec Ideal S1x128 .f32) (ix2 0 (pk 0 c))) ((V (Proc.devRef .tc main_v251_1) : FVec Ideal S1x128 .f32) (ix2 0 (pk 1 c)))) (HAdd.hAdd (α := EReal) (β := EReal) (γ := EReal) ((V (Proc.devRef .tc main_v251_2) : FVec Ideal S1x128 .f32) (ix2 0 (pk 0 c))) ((V (Proc.devRef .tc main_v251_2) : FVec Ideal S1x128 .f32) (ix2 0 (pk 1 c))))
      ((V (Proc.devRef .tc main_v143) : FVec Ideal S_ .f32) ix0) ((V (Proc.devRef .tc main_arg17) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- After the fifth pass, the offset of the fifth layer's affine form from the two halves' sums. -/
theorem h5_v277 (p : Fin 2) (c : Fin 64) : (after hostOps5 V (Proc.devRef .tc main_v277) : FVec Ideal S1x128 .f32) (ix2 0 (pk p c))
    = affD (HAdd.hAdd (α := EReal) (β := EReal) (γ := EReal) ((V (Proc.devRef .tc main_v251_1) : FVec Ideal S1x128 .f32) (ix2 0 (pk 0 c))) ((V (Proc.devRef .tc main_v251_1) : FVec Ideal S1x128 .f32) (ix2 0 (pk 1 c)))) (HAdd.hAdd (α := EReal) (β := EReal) (γ := EReal) ((V (Proc.devRef .tc main_v251_2) : FVec Ideal S1x128 .f32) (ix2 0 (pk 0 c))) ((V (Proc.devRef .tc main_v251_2) : FVec Ideal S1x128 .f32) (ix2 0 (pk 1 c))))
      ((V (Proc.devRef .tc main_v143) : FVec Ideal S_ .f32) ix0) ((V (Proc.devRef .tc main_arg17) : FVec Ideal S64 .f32) (ix1 c)) ((V (Proc.devRef .tc main_arg18) : FVec Ideal S64 .f32) (ix1 c)) := by
  obtain rfl | rfl : p = 0 ∨ p = 1 := by omega
  · simp only [pk_zero, pk_one]; after_reads_at; after_reads_at; rfl
  · simp only [pk_zero, pk_one]; after_reads_at; after_reads_at; rfl

/-- The result's entry is the packed lane's. -/
theorem h6_v282 (p : Fin 2) (g : Fin 2048) (c : Fin 64) : (after hostOps6 V (Proc.devRef .tc main_v282) : FVec Ideal S16x256x64 .f32) (ix3 (la (ln2 p g)) (lb (ln2 p g)) c)
    = (V (Proc.devRef .tc main_v278) : FVec Ideal S2048x128 .f32) (ix2 g (pk p c)) := by
  obtain rfl | rfl : p = 0 ∨ p = 1 := by omega
  · have e : (la (ln2 0 g)).val * 256 + (lb (ln2 0 g)).val = g.val := by show (0 * 2048 + g.val) / 256 * 256 + (0 * 2048 + g.val) % 256 = g.val; omega
    rw [pk_zero]; after_reads_at
    rw [dif_pos (by rw [e]; exact g.isLt)]
    after_reads_at
    exact congrArg (fun i => V (Proc.devRef .tc main_v278) (ix2 i _)) (Fin.ext e)
  · have e : (la (ln2 1 g)).val * 256 + (lb (ln2 1 g)).val = 2048 + g.val := by show (1 * 2048 + g.val) / 256 * 256 + (1 * 2048 + g.val) % 256 = 2048 + g.val; omega
    rw [pk_one]; after_reads_at
    rw [dif_neg (by rw [e]; omega)]
    after_reads_at
    exact congrArg (fun i => V (Proc.devRef .tc main_v278) (ix2 i _)) (Fin.ext (by show _ - 2048 = g.val; rw [e]; omega))

end Cert.KernelIdeal.Host

end
-- ==== Proof.KPure.lean ====
/- What each payload of the kernel's first three bodies holds at a coordinate, over the extended reals. -/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.KernelIdeal.Pure

open Idealize.ShloMosaic Idealize.ShloMosaic.TcCoe Idealize.SL.Sem
open Cert.KernelIdeal Cert.KernelIdeal.Gen

/-- A row times a column. -/
def hid {N K J : ℕ} (z : FVec Ideal ⟨2, ![N, K]⟩ .bf16) (w : FVec Ideal ⟨2, ![K, J]⟩ .bf16) (n : Fin N) (j : Fin J) : EReal :=
  ∑ k : Fin K, z (ix2 n k) * w (ix2 k j)

/-- The mask of a row of two packed halves, spread over the lanes. -/
def mex {N J : ℕ} (mp : FVec Ideal ⟨2, ![2, N]⟩ .bf16) (e : FVec Ideal ⟨2, ![2, J]⟩ .bf16) (n : Fin N) (j : Fin J) : EReal :=
  ∑ q : Fin 2, mp (ix2 q n) * e (ix2 q j)

/-- The affine form, the rectifier and the mask. -/
def act {J : ℕ} (h : EReal) (a d : FVec Ideal ⟨2, ![1, J]⟩ .f32) (m : EReal) (j : Fin J) : EReal :=
  max (h * a (ix2 0 j) + d (ix2 0 j)) 0 * m

/-- The masked activation of one layer. -/
def lay {N K J : ℕ} (z : FVec Ideal ⟨2, ![N, K]⟩ .bf16) (w : FVec Ideal ⟨2, ![K, J]⟩ .bf16) (a d : FVec Ideal ⟨2, ![1, J]⟩ .f32)
    (mp : FVec Ideal ⟨2, ![2, N]⟩ .bf16) (e : FVec Ideal ⟨2, ![2, J]⟩ .bf16) (n : Fin N) (j : Fin J) : EReal :=
  act (hid z w n j) a d (mex mp e n j) j

section P0
variable (x0 : Vec Ideal S16384x10 .bf16) (w0 : Vec Ideal S10x128 .bf16) (acc : Vec Ideal S1x128 .f32)

/-- The first pass starts the sums at zero. -/
theorem pay0_1 (j : S1x128.Idx) : k0_pay1 (F := Ideal) j = 0 := by pointwise [k0_pay1]
/-- The first pass starts the sums of squares at zero. -/
theorem pay0_2 (j : S1x128.Idx) : k0_pay2 (F := Ideal) j = 0 := by pointwise [k0_pay2]
/-- The first pass starts the count of rows at zero. -/
theorem pay0_3 (j : S1x1.Idx) : k0_pay3 (F := Ideal) j = 0 := by pointwise [k0_pay3]
/-- The first pass adds a block's products to the sums. -/
theorem pay0_5 (j : S1x128.Idx) : k0_pay5 x0 w0 acc j = acc j + ∑ n : Fin 16384, hid x0 w0 n (j 1) := by
  idx_vars j
  pointwise [k0_pay5, k0_pay4, hid]
/-- The first pass adds a block's squared products to the sums of squares. -/
theorem pay0_6 (j : S1x128.Idx) : k0_pay6 x0 w0 acc j
    = acc j + ∑ n : Fin 16384, hid x0 w0 n (j 1) * hid x0 w0 n (j 1) := by
  idx_vars j
  pointwise [k0_pay6, k0_pay4, hid]
/-- The first pass adds a block's two masks to the count of rows. -/
theorem pay0_7 (c : Vec Ideal S1x1 .f32) (mp : Vec Ideal S2x16384 .bf16) (j : S1x1.Idx) :
    k0_pay7 c mp j = c j + ∑ q : Fin 2, ∑ n : Fin 16384, mp (ix2 q n) := by
  idx_vars j
  pointwise [k0_pay7]
end P0

section P1
variable (z : Vec Ideal S16384x10 .bf16) (w : Vec Ideal S10x128 .bf16) (a d : Vec Ideal S1x128 .f32)
  (mp : Vec Ideal S2x16384 .bf16) (e : Vec Ideal S2x128 .bf16) (wn : Vec Ideal S128x128 .bf16) (acc : Vec Ideal S1x128 .f32)

/-- The second pass starts the sums at zero. -/
theorem pay1_3 (j : S1x128.Idx) : k1_pay3 (F := Ideal) j = 0 := by pointwise [k1_pay3]
/-- The second pass starts the sums of squares at zero. -/
theorem pay1_4 (j : S1x128.Idx) : k1_pay4 (F := Ideal) j = 0 := by pointwise [k1_pay4]
/-- The second pass writes a block's masked activations. -/
theorem pay1_5 (n : Fin 16384) (j : Fin 128) : k1_pay5 z w a d mp e (ix2 n j) = lay z w a d mp e n j := by
  pointwise [k1_pay5, lay, act, hid, mex]
/-- The second pass adds the next layer's products of a block to the sums. -/
theorem pay1_s (j : S1x128.Idx) : k1_pay1 (k1_pay7 acc) (k1_pay8 z w a d mp e wn) j
    = acc j + ∑ n : Fin 16384, ∑ k : Fin 128, lay z w a d mp e n k * wn (ix2 k (j 1)) := by
  idx_vars j
  pointwise [k1_pay1, k1_pay7, k1_pay8, k1_pay6]
  simp only [pay1_5]
/-- The second pass adds the next layer's squared products of a block to the sums of squares. -/
theorem pay1_q (j : S1x128.Idx) : k1_pay2 (k1_pay6 z w a d mp e wn) acc j
    = acc j + ∑ n : Fin 16384, (∑ k : Fin 128, lay z w a d mp e n k * wn (ix2 k (j 1))) * (∑ k : Fin 128, lay z w a d mp e n k * wn (ix2 k (j 1))) := by
  idx_vars j
  pointwise [k1_pay2, k1_pay6]
  simp only [pay1_5]
end P1

section P2
variable (z : Vec Ideal S16384x128 .bf16) (w : Vec Ideal S128x128 .bf16) (a d : Vec Ideal S1x128 .f32)
  (mp : Vec Ideal S2x16384 .bf16) (e : Vec Ideal S2x128 .bf16) (wn : Vec Ideal S128x128 .bf16) (acc : Vec Ideal S1x128 .f32)

/-- The third pass starts the sums at zero. -/
theorem pay2_3 (j : S1x128.Idx) : k2_pay3 (F := Ideal) j = 0 := by pointwise [k2_pay3]
/-- The third pass starts the sums of squares at zero. -/
theorem pay2_4 (j : S1x128.Idx) : k2_pay4 (F := Ideal) j = 0 := by pointwise [k2_pay4]
/-- The third pass writes a block's masked activations. -/
theorem pay2_5 (n : Fin 16384) (j : Fin 128) : k2_pay5 z w a d mp e (ix2 n j) = lay z w a d mp e n j := by
  pointwise [k2_pay5, lay, act, hid, mex]
/-- The third pass adds the next layer's products of a block to the sums. -/
theorem pay2_s (j : S1x128.Idx) : k2_pay1 (k2_pay7 acc) (k2_pay8 z w a d mp e wn) j
    = acc j + ∑ n : Fin 16384, ∑ k : Fin 128, lay z w a d mp e n k * wn (ix2 k (j 1)) := by
  idx_vars j
  pointwise [k2_pay1, k2_pay7, k2_pay8, k2_pay6]
  simp only [pay2_5]
/-- The third pass adds the next layer's squared products of a block to the sums of squares. -/
theorem pay2_q (j : S1x128.Idx) : k2_pay2 (k2_pay6 z w a d mp e wn) acc j
    = acc j + ∑ n : Fin 16384, (∑ k : Fin 128, lay z w a d mp e n k * wn (ix2 k (j 1))) * (∑ k : Fin 128, lay z w a d mp e n k * wn (ix2 k (j 1))) := by
  idx_vars j
  pointwise [k2_pay2, k2_pay6]
  simp only [pay2_5]
end P2

end Cert.KernelIdeal.Pure

end
-- ==== Proof.Region0.lean ====
/- What the arrays of the first pass hold after it, for any contents it is entered with. -/
module

public import proofs.«01_k».proof.Proof.KPure
public import proofs.«01_k».proof.Proof.Gen.KernelIdeal.Frame.Region0
public import Idealize.ShloMosaic.Lib.Pipeline.ValueKit

@[expose] public section

set_option maxRecDepth 16384

noncomputable section

namespace Cert.KernelIdeal.Pure

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The blocks' places at a point. -/
theorem idx0 : ∀ t : Fin cfg0.N, win0_0.index t = ![t.val, 0] ∧ win0_1.index t = ![0, t.val] ∧ win0_2.index t = ![0, 0] :=
  (by decide +kernel : ∀ t : Fin grid0.N, _)

/-- The first layer's products before the affine form. -/
def H0 (n : Fin 131072) (j : Fin 128) : EReal := hid (N := 131072) (K := 10) (J := 128) (V c main_v33) (V c main_v61) n j

/-- A block's products are the whole array's at the block's rows. -/
theorem blk0 (t : Fin cfg0.N) (n : Fin 16384) (h : t.val * 16384 + n.val < 131072) (j : Fin 128) :
    hid (iblk0 V c 0 t) (iblk0 V c 2 t) n j = H0 V c ⟨t.val * 16384 + n.val, h⟩ j := by
  unfold H0 hid
  blk_point [iblk0, idx0 t]

/-- The two masks of a row together. -/
def msum {N : ℕ} (mp : FVec Ideal ⟨2, ![2, N]⟩ .bf16) (n : Fin N) : EReal := ∑ q : Fin 2, mp (ix2 q n)

/-- A block's masks are the whole array's at the block's rows. -/
theorem mblk0 (t : Fin cfg0.N) (n : Fin 16384) (h : t.val * 16384 + n.val < 131072) :
    msum (iblk0 V c 1 t) n = msum (N := 131072) (V c main_v41) ⟨t.val * 16384 + n.val, h⟩ := by
  unfold msum
  blk_point [iblk0, idx0 t]

/-- The first pass adds the masks of a block's rows to the count. -/
theorem pay0_c (a : Vec Ideal S1x1 .f32) (mp : Vec Ideal S2x16384 .bf16) (j : S1x1.Idx) :
    k0_pay7 a mp j = a j + ∑ n : Fin 16384, msum mp n := by
  rw [pay0_7, Finset.sum_comm]
  rfl

/-- The sums of the first layer's columns. -/
theorem out0_s : (dat0 V c).arrAt 3 cfg0.N = fun i => ∑ n : Fin 131072, H0 V c n (i 1) := by
  refine (dat0 V c).arrAt_eq_of_after_last 3 t0_7 (by decide +kernel) _ fun j => ?_
  blk_simp
  rw [after0_3, Pipeline.eq_sum_fin_of_reset_step_apply_last (fun n h => (outsAt0 V c n h).1) 8 (fun _ => 0) _
    (fun t h j => by rw [outsAt0_A V c t h]; frame_out; rw [pay0_5, pay0_1])
    (fun t h j => by rw [outsAt0_B V c t h]; frame_out; rw [pay0_5])
    (le_of_eq N_0) t0_7 rfl j, zero_add]
  refine Fin.sum_mul_add_congr fun t n h => blk0 V c t n h _

/-- The sums of the first layer's squared columns. -/
theorem out0_q : (dat0 V c).arrAt 4 cfg0.N = fun i => ∑ n : Fin 131072, H0 V c n (i 1) * H0 V c n (i 1) := by
  refine (dat0 V c).arrAt_eq_of_after_last 4 t0_7 (by decide +kernel) _ fun j => ?_
  blk_simp
  rw [after0_4, Pipeline.eq_sum_fin_of_reset_step_apply_last (fun n h => (outsAt0 V c n h).2.1) 8 (fun _ => 0) _
    (fun t h j => by rw [outsAt0_A V c t h]; frame_out; rw [pay0_6, pay0_2])
    (fun t h j => by rw [outsAt0_B V c t h]; frame_out; rw [pay0_6])
    (le_of_eq N_0) t0_7 rfl j, zero_add]
  refine Fin.sum_mul_add_congr fun t n h => Ideal.mul_congr (blk0 V c t n h _) (blk0 V c t n h _)

/-- The number of valid rows. -/
theorem out0_c : (dat0 V c).arrAt 5 cfg0.N = fun _ => ∑ n : Fin 131072, msum (N := 131072) (V c main_v41) n := by
  refine (dat0 V c).arrAt_eq_of_after_last 5 t0_7 (by decide +kernel) _ fun j => ?_
  blk_simp
  rw [after0_5, Pipeline.eq_sum_fin_of_reset_step_apply_last (fun n h => (outsAt0 V c n h).2.2) 8 (fun _ => 0) _
    (fun t h j => by rw [outsAt0_A V c t h]; frame_out; rw [pay0_c, pay0_3])
    (fun t h j => by rw [outsAt0_B V c t h]; frame_out; rw [pay0_c])
    (le_of_eq N_0) t0_7 rfl j, zero_add]
  refine Fin.sum_mul_add_congr fun t n h => mblk0 V c t n h

end Cert.KernelIdeal.Pure

end
-- ==== Proof.Region1.lean ====
/- What the arrays of the second pass hold after it, for any contents it is entered with. -/
module

public import proofs.«01_k».proof.Proof.KPure
public import proofs.«01_k».proof.Proof.Gen.KernelIdeal.Frame.Region1
public import Idealize.ShloMosaic.Lib.Pipeline.ValueKit

@[expose] public section

set_option maxRecDepth 16384

noncomputable section

namespace Cert.KernelIdeal.Pure

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The blocks' places at a point. -/
theorem idx1 : ∀ t : Fin cfg1.N, win1_0.index t = ![t.val, 0] ∧ win1_1.index t = ![0, t.val] ∧ win1_2.index t = ![0, 0]
    ∧ win1_3.index t = ![0, 0] ∧ win1_4.index t = ![0, 0] ∧ win1_5.index t = ![0, 0] ∧ win1_6.index t = ![0, 0] ∧ win1_7.index t = ![t.val, 0] :=
  (by decide +kernel : ∀ t : Fin grid1.N, _)

/-- The activations the second pass leaves. -/
def Z1 (n : Fin 131072) (j : Fin 128) : EReal :=
  lay (N := 131072) (K := 10) (J := 128) (V c main_v33) (V c main_v61) (V c main_v167) (V c main_v169) (V c main_v41) (V c main_v140) n j

/-- A block's activations are the whole array's at the block's rows. -/
theorem blk1 (t : Fin cfg1.N) (n : Fin 16384) (h : t.val * 16384 + n.val < 131072) (j : Fin 128) :
    lay (iblk1 V c 0 t) (iblk1 V c 2 t) (iblk1 V c 4 t) (iblk1 V c 5 t) (iblk1 V c 1 t) (iblk1 V c 6 t) n j
      = Z1 V c ⟨t.val * 16384 + n.val, h⟩ j := by
  unfold Z1 lay act hid mex
  blk_point [iblk1, idx1 t]

/-- A block's rows lie within the array. -/
theorem row1 (t : Fin cfg1.N) (n : Fin 16384) : t.val * 16384 + n.val < 131072 := by
  have h := lt_of_lt_of_eq t.isLt N_1
  have := n.isLt
  omega

/-- The weights' block is the whole array. -/
theorem wblk1 (t : Fin cfg1.N) (k j : Fin 128) :
    (iblk1 V c 3 t : FVec Ideal S128x128 .bf16) (ix2 k j) = (V c main_v70 : FVec Ideal S128x128 .bf16) (ix2 k j) := by
  blk_point [iblk1, idx1 t]

/-- The array of activations after the second pass. -/
theorem out1_z : (dat1 V c).arrAt 7 cfg1.N = fun i => Z1 V c (i 0) (i 1) := by
  refine (dat1 V c).arrAt_eq_of_covers 7 _ (by decide +kernel) fun t hf y => ?_
  blk_simp [idx1 t]
  have key : k1_pay5 (iblk1 V c 0 t) (iblk1 V c 2 t) (iblk1 V c 4 t) (iblk1 V c 5 t) (iblk1 V c 1 t) (iblk1 V c 6 t) y
      = Z1 V c (((View.whole main_v170_0).slice (win1_7.rect t)).emb y 0) (((View.whole main_v170_0).slice (win1_7.rect t)).emb y 1) := by
    rw [show (y : S16384x128.Idx) = ix2 (y 0) (y 1) from (ix2_eta y).symm]
    refine (pay1_5 _ _ _ _ _ _ (y 0) (y 1)).trans ((blk1 V c t (y 0) (row1 t _) (y 1)).trans ?_)
    refine congrArg₂ (Z1 V c) (Fin.ext ?_) (Fin.ext ?_) <;> blk_simp [idx1 t]
  rw [after1_7]
  by_cases h : t.val % 8 = 0
  · rw [outsAt1_A V c t h]; frame_out; exact key
  · rw [outsAt1_B V c t h]; frame_out; exact key

/-- The sums of the next layer's columns after the second pass. -/
theorem out1_s : (dat1 V c).arrAt 8 cfg1.N
    = fun i => ∑ n : Fin 131072, ∑ k : Fin 128, Z1 V c n k * (V c main_v70 : FVec Ideal S128x128 .bf16) (ix2 k (i 1)) := by
  refine (dat1 V c).arrAt_eq_of_after_last 8 t1_7 (by decide +kernel) _ fun j => ?_
  blk_simp
  rw [after1_8, Pipeline.eq_sum_fin_of_reset_step_apply_last (fun n h => (outsAt1 V c n h).2.1) 8 (fun _ => 0) _
    (fun t h j => by rw [outsAt1_A V c t h]; frame_out; rw [pay1_s, pay1_3])
    (fun t h j => by rw [outsAt1_B V c t h]; frame_out; rw [pay1_s])
    (le_of_eq N_1) t1_7 rfl j, zero_add]
  refine Fin.sum_mul_add_congr fun t n h => Fin.sum_fin_congr fun k => Ideal.mul_congr (blk1 V c t n h k) (wblk1 V c t k _)

/-- The sums of the next layer's squared columns after the second pass. -/
theorem out1_q : (dat1 V c).arrAt 9 cfg1.N
    = fun i => ∑ n : Fin 131072, (∑ k : Fin 128, Z1 V c n k * (V c main_v70 : FVec Ideal S128x128 .bf16) (ix2 k (i 1)))
        * ∑ k : Fin 128, Z1 V c n k * (V c main_v70 : FVec Ideal S128x128 .bf16) (ix2 k (i 1)) := by
  refine (dat1 V c).arrAt_eq_of_after_last 9 t1_7 (by decide +kernel) _ fun j => ?_
  blk_simp
  rw [after1_9, Pipeline.eq_sum_fin_of_reset_step_apply_last (fun n h => (outsAt1 V c n h).2.2) 8 (fun _ => 0) _
    (fun t h j => by rw [outsAt1_A V c t h]; frame_out; rw [pay1_q, pay1_4])
    (fun t h j => by rw [outsAt1_B V c t h]; frame_out; rw [pay1_q])
    (le_of_eq N_1) t1_7 rfl j, zero_add]
  refine Fin.sum_mul_add_congr fun t n h => Ideal.mul_congr
    (Fin.sum_fin_congr fun k => Ideal.mul_congr (blk1 V c t n h k) (wblk1 V c t k _))
    (Fin.sum_fin_congr fun k => Ideal.mul_congr (blk1 V c t n h k) (wblk1 V c t k _))

end Cert.KernelIdeal.Pure

end
-- ==== Proof.Region2.lean ====
/- What the arrays of the third pass hold after it, for any contents it is entered with. -/
module

public import proofs.«01_k».proof.Proof.KPure
public import proofs.«01_k».proof.Proof.Gen.KernelIdeal.Frame.Region2
public import Idealize.ShloMosaic.Lib.Pipeline.ValueKit

@[expose] public section

set_option maxRecDepth 16384

noncomputable section

namespace Cert.KernelIdeal.Pure

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The blocks' places at a point. -/
theorem idx2 : ∀ t : Fin cfg2.N, win2_0.index t = ![t.val, 0] ∧ win2_1.index t = ![0, t.val] ∧ win2_2.index t = ![0, 0]
    ∧ win2_3.index t = ![0, 0] ∧ win2_4.index t = ![0, 0] ∧ win2_5.index t = ![0, 0] ∧ win2_6.index t = ![0, 0] ∧ win2_7.index t = ![t.val, 0] :=
  (by decide +kernel : ∀ t : Fin grid2.N, _)

/-- The activations the third pass leaves. -/
def Z2 (n : Fin 131072) (j : Fin 128) : EReal :=
  lay (N := 131072) (K := 128) (J := 128) (V c main_v170_0) (V c main_v70) (V c main_v194) (V c main_v196) (V c main_v41) (V c main_v140) n j

/-- A block's activations are the whole array's at the block's rows. -/
theorem blk2 (t : Fin cfg2.N) (n : Fin 16384) (h : t.val * 16384 + n.val < 131072) (j : Fin 128) :
    lay (iblk2 V c 0 t) (iblk2 V c 2 t) (iblk2 V c 4 t) (iblk2 V c 5 t) (iblk2 V c 1 t) (iblk2 V c 6 t) n j
      = Z2 V c ⟨t.val * 16384 + n.val, h⟩ j := by
  unfold Z2 lay act hid mex
  blk_point [iblk2, idx2 t]

/-- A block's rows lie within the array. -/
theorem row2 (t : Fin cfg2.N) (n : Fin 16384) : t.val * 16384 + n.val < 131072 := by
  have h := lt_of_lt_of_eq t.isLt N_2
  have := n.isLt
  omega

/-- The weights' block is the whole array. -/
theorem wblk2 (t : Fin cfg2.N) (k j : Fin 128) :
    (iblk2 V c 3 t : FVec Ideal S128x128 .bf16) (ix2 k j) = (V c main_v79 : FVec Ideal S128x128 .bf16) (ix2 k j) := by
  blk_point [iblk2, idx2 t]

/-- The array of activations after the third pass. -/
theorem out2_z : (dat2 V c).arrAt 7 cfg2.N = fun i => Z2 V c (i 0) (i 1) := by
  refine (dat2 V c).arrAt_eq_of_covers 7 _ (by decide +kernel) fun t hf y => ?_
  blk_simp [idx2 t]
  have key : k2_pay5 (iblk2 V c 0 t) (iblk2 V c 2 t) (iblk2 V c 4 t) (iblk2 V c 5 t) (iblk2 V c 1 t) (iblk2 V c 6 t) y
      = Z2 V c (((View.whole main_v197_0).slice (win2_7.rect t)).emb y 0) (((View.whole main_v197_0).slice (win2_7.rect t)).emb y 1) := by
    rw [show (y : S16384x128.Idx) = ix2 (y 0) (y 1) from (ix2_eta y).symm]
    refine (pay2_5 _ _ _ _ _ _ (y 0) (y 1)).trans ((blk2 V c t (y 0) (row2 t _) (y 1)).trans ?_)
    refine congrArg₂ (Z2 V c) (Fin.ext ?_) (Fin.ext ?_) <;> blk_simp [idx2 t]
  rw [after2_7]
  by_cases h : t.val % 8 = 0
  · rw [outsAt2_A V c t h]; frame_out; exact key
  · rw [outsAt2_B V c t h]; frame_out; exact key

/-- The sums of the next layer's columns after the third pass. -/
theorem out2_s : (dat2 V c).arrAt 8 cfg2.N
    = fun i => ∑ n : Fin 131072, ∑ k : Fin 128, Z2 V c n k * (V c main_v79 : FVec Ideal S128x128 .bf16) (ix2 k (i 1)) := by
  refine (dat2 V c).arrAt_eq_of_after_last 8 t2_7 (by decide +kernel) _ fun j => ?_
  blk_simp
  rw [after2_8, Pipeline.eq_sum_fin_of_reset_step_apply_last (fun n h => (outsAt2 V c n h).2.1) 8 (fun _ => 0) _
    (fun t h j => by rw [outsAt2_A V c t h]; frame_out; rw [pay2_s, pay2_3])
    (fun t h j => by rw [outsAt2_B V c t h]; frame_out; rw [pay2_s])
    (le_of_eq N_2) t2_7 rfl j, zero_add]
  refine Fin.sum_mul_add_congr fun t n h => Fin.sum_fin_congr fun k => Ideal.mul_congr (blk2 V c t n h k) (wblk2 V c t k _)

/-- The sums of the next layer's squared columns after the third pass. -/
theorem out2_q : (dat2 V c).arrAt 9 cfg2.N
    = fun i => ∑ n : Fin 131072, (∑ k : Fin 128, Z2 V c n k * (V c main_v79 : FVec Ideal S128x128 .bf16) (ix2 k (i 1)))
        * ∑ k : Fin 128, Z2 V c n k * (V c main_v79 : FVec Ideal S128x128 .bf16) (ix2 k (i 1)) := by
  refine (dat2 V c).arrAt_eq_of_after_last 9 t2_7 (by decide +kernel) _ fun j => ?_
  blk_simp
  rw [after2_9, Pipeline.eq_sum_fin_of_reset_step_apply_last (fun n h => (outsAt2 V c n h).2.2) 8 (fun _ => 0) _
    (fun t h j => by rw [outsAt2_A V c t h]; frame_out; rw [pay2_q, pay2_4])
    (fun t h j => by rw [outsAt2_B V c t h]; frame_out; rw [pay2_q])
    (le_of_eq N_2) t2_7 rfl j, zero_add]
  refine Fin.sum_mul_add_congr fun t n h => Ideal.mul_congr
    (Fin.sum_fin_congr fun k => Ideal.mul_congr (blk2 V c t n h k) (wblk2 V c t k _))
    (Fin.sum_fin_congr fun k => Ideal.mul_congr (blk2 V c t n h k) (wblk2 V c t k _))

end Cert.KernelIdeal.Pure

end
-- ==== Proof.KPure3.lean ====
/- What each payload of the kernel's last three bodies holds at a coordinate, over the extended reals. -/
module

public import proofs.«01_k».proof.Proof.KPure
public import Idealize.ShloMosaic.Lib.Pointwise
public import Idealize.ShloMosaic.Lib.IdealHost

@[expose] public section

set_option maxRecDepth 16384

noncomputable section

namespace Cert.KernelIdeal.Pure

open Idealize.ShloMosaic Idealize.ShloMosaic.TcCoe Idealize.SL.Sem
open Cert.KernelIdeal Cert.KernelIdeal.Gen

/-- The starting value of the maximum is the bottom element. -/
theorem bits_bot : Ideal.ofBits FTy.f32 4286578688#32 = (⊥ : EReal) := by
  simp [Ideal.ofBits, Ideal.ieee]

/-- The starting value of the maximum in the shorter type is the bottom element too. -/
theorem bits_bot16 : Ideal.ofBits FTy.bf16 65408#16 = (⊥ : EReal) := by
  simp [Ideal.ofBits, Ideal.ieee]

section P3
variable (z : Vec Ideal S16384x128 .bf16) (w : Vec Ideal S128x128 .bf16) (a d : Vec Ideal S1x128 .f32)
  (mp : Vec Ideal S2x16384 .bf16) (e : Vec Ideal S2x128 .bf16) (wn : Vec Ideal S256x128 .bf16) (acc : Vec Ideal S1x128 .f32)

/-- The maximum over the 64 rows of a group. -/
def pool64 {N M J : ℕ} (hN : N = M * 64) (f : Fin N → Fin J → EReal) (g : Fin M) (j : Fin J) : EReal :=
  Finset.univ.fold max ⊥ fun l : Fin 64 => f ⟨g.val * 64 + l.val, by have := g.isLt; omega⟩ j

/-- A row beside the maximum of its group, times a column. -/
def hidCat {N M : ℕ} (hN : N = M * 64) (f : Fin N → Fin 128 → EReal) (p : Fin M → Fin 128 → EReal) (wn : FVec Ideal ⟨2, ![256, 128]⟩ .bf16)
    (n : Fin N) (j : Fin 128) : EReal :=
  (∑ k : Fin 128, f n k * wn (ix2 ⟨k.val, by omega⟩ j))
    + ∑ k : Fin 128, p ⟨n.val / 64, by have := n.isLt; omega⟩ k * wn (ix2 ⟨128 + k.val, by omega⟩ j)

/-- The fourth pass starts the sums at zero. -/
theorem pay3_5 (j : S1x128.Idx) : k3_pay5 (F := Ideal) j = 0 := by pointwise [k3_pay5]
/-- The fourth pass starts the sums of squares at zero. -/
theorem pay3_6 (j : S1x128.Idx) : k3_pay6 (F := Ideal) j = 0 := by pointwise [k3_pay6]
/-- The fourth pass's mask over the lanes, for a block. -/
theorem pay3_7 (n : Fin 16384) (j : Fin 128) : k3_pay7 mp e (ix2 n j) = mex mp e n j := by
  pointwise [k3_pay7, mex]
/-- The fourth pass writes a block's masked activations. -/
theorem pay3_8 (n : Fin 16384) (j : Fin 128) : k3_pay8 z w mp e a d (ix2 n j) = lay z w a d mp e n j := by
  pointwise [k3_pay8, k3_pay7, lay, act, hid, mex]
/-- The fourth pass writes the maxima of a block's groups. -/
theorem pay3_9 (n : Fin 256) (j : Fin 128) : k3_pay9 z w mp e a d (ix2 n j) = pool64 (by rfl) (lay z w a d mp e) n j := by
  pointwise [k3_pay9, pool64]
  simp only [bits_bot16]
  simp only [pay3_8]
/-- The next layer's products in the fourth pass: a row beside its group's maximum, times the weights. -/
theorem pay3_1 (n : Fin 16384) (j : Fin 128) : k3_pay1 (k3_pay10 z w mp e a d) wn (ix2 n j)
    = hidCat (M := 256) (by rfl) (lay z w a d mp e) (pool64 (by rfl) (lay z w a d mp e)) wn n j := by
  pointwise [k3_pay1, k3_pay10, hidCat]
  simp only [pay3_8, pay3_9]
/-- The fourth pass adds the masked products of a block to the sums. -/
theorem pay3_s (j : S1x128.Idx) : k3_pay3 (k3_pay7 mp e) (k3_pay10 z w mp e a d) wn acc j
    = acc j + ∑ n : Fin 16384, hidCat (M := 256) (by rfl) (lay z w a d mp e) (pool64 (by rfl) (lay z w a d mp e)) wn n (j 1) * mex mp e n (j 1) := by
  idx_vars j
  pointwise [k3_pay3, k3_pay2]
  simp only [pay3_1, pay3_7]
/-- The fourth pass adds the masked squares of a block's products to the sums of squares. -/
theorem pay3_q (j : S1x128.Idx) : k3_pay4 (k3_pay7 mp e) (k3_pay10 z w mp e a d) wn acc j
    = acc j + ∑ n : Fin 16384, (hidCat (M := 256) (by rfl) (lay z w a d mp e) (pool64 (by rfl) (lay z w a d mp e)) wn n (j 1) * mex mp e n (j 1))
        * hidCat (M := 256) (by rfl) (lay z w a d mp e) (pool64 (by rfl) (lay z w a d mp e)) wn n (j 1) := by
  idx_vars j
  pointwise [k3_pay4, k3_pay2]
  simp only [pay3_1, pay3_7]
end P3

section P4
variable (p : Vec Ideal S256x128 .bf16) (z : Vec Ideal S16384x128 .bf16) (w : Vec Ideal S256x128 .bf16) (a d : Vec Ideal S1x128 .f32)
  (mp : Vec Ideal S2x16384 .bf16) (e : Vec Ideal S2x128 .bf16) (wn : Vec Ideal S128x128 .bf16) (acc : Vec Ideal S1x128 .f32)

/-- The masked activation of the layer over rows beside their group's maximum. -/
def layCat {N M : ℕ} (hN : N = M * 64) (z : FVec Ideal ⟨2, ![N, 128]⟩ .bf16) (p : FVec Ideal ⟨2, ![M, 128]⟩ .bf16) (w : FVec Ideal ⟨2, ![256, 128]⟩ .bf16)
    (a d : FVec Ideal ⟨2, ![1, 128]⟩ .f32) (mp : FVec Ideal ⟨2, ![2, N]⟩ .bf16) (e : FVec Ideal ⟨2, ![2, 128]⟩ .bf16) (n : Fin N) (j : Fin 128) : EReal :=
  act (hidCat hN (fun n k => z (ix2 n k)) (fun g k => p (ix2 g k)) w n j) a d (mex mp e n j) j

/-- The fifth pass starts the sums at zero. -/
theorem pay4_4 (j : S1x128.Idx) : k4_pay4 (F := Ideal) j = 0 := by pointwise [k4_pay4]
/-- The fifth pass starts the sums of squares at zero. -/
theorem pay4_5 (j : S1x128.Idx) : k4_pay5 (F := Ideal) j = 0 := by pointwise [k4_pay5]
/-- The fifth pass writes a block's masked activations. -/
theorem pay4_6 (n : Fin 16384) (j : Fin 128) : k4_pay6 p z w a d mp e (ix2 n j) = layCat (M := 256) (by rfl) z p w a d mp e n j := by
  pointwise [k4_pay6, layCat, act, hidCat, mex]
/-- The fifth pass adds the next layer's products of a block to the sums. -/
theorem pay4_s (j : S1x128.Idx) : k4_pay2 (k4_pay6 p z w a d mp e) wn acc j
    = acc j + ∑ n : Fin 16384, ∑ k : Fin 128, layCat (M := 256) (by rfl) z p w a d mp e n k * wn (ix2 k (j 1)) := by
  idx_vars j
  pointwise [k4_pay2, k4_pay1]
  simp only [pay4_6]
/-- The fifth pass adds the next layer's squared products of a block to the sums of squares. -/
theorem pay4_q (j : S1x128.Idx) : k4_pay3 (k4_pay6 p z w a d mp e) wn acc j
    = acc j + ∑ n : Fin 16384, (∑ k : Fin 128, layCat (M := 256) (by rfl) z p w a d mp e n k * wn (ix2 k (j 1)))
        * (∑ k : Fin 128, layCat (M := 256) (by rfl) z p w a d mp e n k * wn (ix2 k (j 1))) := by
  idx_vars j
  pointwise [k4_pay3, k4_pay1]
  simp only [pay4_6]
end P4

section P5
variable (z : Vec Ideal S16384x128 .bf16) (w : Vec Ideal S128x128 .bf16) (a d : Vec Ideal S1x128 .f32)
  (mp : Vec Ideal S2x16384 .bf16) (e : Vec Ideal S2x128 .bf16) (ml : Vec Ideal S2x256 .bf16) (w0 w1 : Vec Ideal S128x128 .bf16) (b0 b1 : Vec Ideal S1x128 .f32)

/-- The two output layers over a group's maximum, masked by the lane. -/
def outp {M : ℕ} (p : Fin M → Fin 128 → EReal) (w0 : FVec Ideal ⟨2, ![128, 128]⟩ .bf16) (b0 : FVec Ideal ⟨2, ![1, 128]⟩ .f32)
    (w1 : FVec Ideal ⟨2, ![128, 128]⟩ .bf16) (b1 : FVec Ideal ⟨2, ![1, 128]⟩ .f32) (ml : FVec Ideal ⟨2, ![2, M]⟩ .bf16)
    (e : FVec Ideal ⟨2, ![2, 128]⟩ .bf16) (g : Fin M) (j : Fin 128) : EReal :=
  ((∑ l : Fin 128, max ((∑ k : Fin 128, p g k * w0 (ix2 k l)) + b0 (ix2 0 l)) 0 * w1 (ix2 l j)) + b1 (ix2 0 j)) * mex ml e g j

/-- The last pass writes the two output layers over the maxima of a block's groups. -/
theorem pay5_1 (j : S256x128.Idx) : k5_pay1 (k5_pay2 z w a d mp e w0 b0) w1 b1 ml e j
    = outp (M := 256) (pool64 (by rfl) (lay z w a d mp e)) w0 b0 w1 b1 ml e (j 0) (j 1) := by
  idx_vars j
  pointwise [k5_pay1, k5_pay2, outp, pool64, lay, act, hid, mex]
  simp only [bits_bot, bits_bot16]
end P5

end Cert.KernelIdeal.Pure

end
-- ==== Proof.Region3.lean ====
/- What the arrays of the fourth pass hold after it, for any contents it is entered with. -/
module

public import proofs.«01_k».proof.Proof.KPure3
public import proofs.«01_k».proof.Proof.Gen.KernelIdeal.Frame.Region3
public import Idealize.ShloMosaic.Lib.Pipeline.ValueKit

@[expose] public section

set_option maxRecDepth 16384

noncomputable section

namespace Cert.KernelIdeal.Pure

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The blocks' places at a point. -/
theorem idx3 : ∀ t : Fin cfg3.N, win3_0.index t = ![t.val, 0] ∧ win3_1.index t = ![0, t.val] ∧ win3_2.index t = ![0, 0]
    ∧ win3_3.index t = ![0, 0] ∧ win3_4.index t = ![0, 0] ∧ win3_5.index t = ![0, 0] ∧ win3_6.index t = ![0, 0] ∧ win3_7.index t = ![t.val, 0]
    ∧ win3_8.index t = ![t.val, 0] :=
  (by decide +kernel : ∀ t : Fin grid3.N, _)

/-- The activations the fourth pass leaves. -/
def Z3 (n : Fin 131072) (j : Fin 128) : EReal :=
  lay (N := 131072) (K := 128) (J := 128) (V c main_v197_0) (V c main_v79) (V c main_v221) (V c main_v223) (V c main_v41) (V c main_v140) n j

/-- Their maxima over the groups. -/
def P3 (g : Fin 2048) (j : Fin 128) : EReal := pool64 (by rfl) (Z3 V c) g j

/-- The next layer's products. -/
def H3 (n : Fin 131072) (j : Fin 128) : EReal := hidCat (by rfl) (Z3 V c) (P3 V c) (V c main_v100) n j

/-- The mask over the lanes. -/
def M3 (n : Fin 131072) (j : Fin 128) : EReal := mex (N := 131072) (J := 128) (V c main_v41) (V c main_v140) n j

/-- A block's rows lie within the array. -/
theorem row3 (t : Fin cfg3.N) (n : Fin 16384) : t.val * 16384 + n.val < 131072 := by
  have h := lt_of_lt_of_eq t.isLt N_3
  have := n.isLt
  omega

/-- A block's groups lie within the array. -/
theorem grp3 (t : Fin cfg3.N) (n : Fin 256) : t.val * 256 + n.val < 2048 := by
  have h := lt_of_lt_of_eq t.isLt N_3
  have := n.isLt
  omega

/-- A block's activations are the whole array's at the block's rows. -/
theorem blk3 (t : Fin cfg3.N) (n : Fin 16384) (h : t.val * 16384 + n.val < 131072) (j : Fin 128) :
    lay (iblk3 V c 0 t) (iblk3 V c 2 t) (iblk3 V c 4 t) (iblk3 V c 5 t) (iblk3 V c 1 t) (iblk3 V c 6 t) n j
      = Z3 V c ⟨t.val * 16384 + n.val, h⟩ j := by
  unfold Z3 lay act hid mex
  blk_point [iblk3, idx3 t]

/-- A block's mask over the lanes is the whole array's at the block's rows. -/
theorem mblk3 (t : Fin cfg3.N) (n : Fin 16384) (h : t.val * 16384 + n.val < 131072) (j : Fin 128) :
    mex (iblk3 V c 1 t) (iblk3 V c 6 t) n j = M3 V c ⟨t.val * 16384 + n.val, h⟩ j := by
  unfold M3 mex
  blk_point [iblk3, idx3 t]

/-- The maxima of a block's groups are the whole array's at those groups. -/
theorem pblk3 (t : Fin cfg3.N) (g : Fin 256) (h : t.val * 256 + g.val < 2048) (j : Fin 128) :
    pool64 (by rfl) (lay (iblk3 V c 0 t) (iblk3 V c 2 t) (iblk3 V c 4 t) (iblk3 V c 5 t) (iblk3 V c 1 t) (iblk3 V c 6 t)) g j
      = P3 V c ⟨t.val * 256 + g.val, h⟩ j := by
  unfold P3 pool64
  refine Finset.fold_congr fun l _ => (blk3 V c t _ (row3 t _) j).trans (congrArg (fun n => Z3 V c n j) (Fin.ext ?_))
  show t.val * 16384 + (g.val * 64 + l.val) = (t.val * 256 + g.val) * 64 + l.val
  ring

/-- The weights' block is the whole array. -/
theorem wblk3 (t : Fin cfg3.N) (k : Fin 256) (j : Fin 128) :
    (iblk3 V c 3 t : FVec Ideal S256x128 .bf16) (ix2 k j) = (V c main_v100 : FVec Ideal S256x128 .bf16) (ix2 k j) := by
  blk_point [iblk3, idx3 t]

/-- The next layer's products of a block are the whole array's at the block's rows. -/
theorem hblk3 (t : Fin cfg3.N) (n : Fin 16384) (h : t.val * 16384 + n.val < 131072) (j : Fin 128) :
    hidCat (M := 256) (by rfl) (lay (iblk3 V c 0 t) (iblk3 V c 2 t) (iblk3 V c 4 t) (iblk3 V c 5 t) (iblk3 V c 1 t) (iblk3 V c 6 t))
      (pool64 (by rfl) (lay (iblk3 V c 0 t) (iblk3 V c 2 t) (iblk3 V c 4 t) (iblk3 V c 5 t) (iblk3 V c 1 t) (iblk3 V c 6 t))) (iblk3 V c 3 t) n j
      = H3 V c ⟨t.val * 16384 + n.val, h⟩ j := by
  unfold H3 hidCat
  refine Ideal.add_congr (Fin.sum_fin_congr fun k => Ideal.mul_congr (blk3 V c t n h k) (wblk3 V c t _ j))
    (Fin.sum_fin_congr fun k => Ideal.mul_congr ((pblk3 V c t _ (grp3 t _) k).trans (congrArg (fun g => P3 V c g k) (Fin.ext ?_))) (wblk3 V c t _ j))
  show t.val * 256 + n.val / 64 = (t.val * 16384 + n.val) / 64
  omega

/-- The array of activations after the fourth pass. -/
theorem out3_z : (dat3 V c).arrAt 7 cfg3.N = fun i => Z3 V c (i 0) (i 1) := by
  refine (dat3 V c).arrAt_eq_of_covers 7 _ (by decide +kernel) fun t hf y => ?_
  blk_simp [idx3 t]
  have key : k3_pay8 (iblk3 V c 0 t) (iblk3 V c 2 t) (iblk3 V c 1 t) (iblk3 V c 6 t) (iblk3 V c 4 t) (iblk3 V c 5 t) y
      = Z3 V c (((View.whole main_v224_0).slice (win3_7.rect t)).emb y 0) (((View.whole main_v224_0).slice (win3_7.rect t)).emb y 1) := by
    rw [show (y : S16384x128.Idx) = ix2 (y 0) (y 1) from (ix2_eta y).symm]
    refine (pay3_8 _ _ _ _ _ _ (y 0) (y 1)).trans ((blk3 V c t (y 0) (row3 t _) (y 1)).trans ?_)
    refine congrArg₂ (Z3 V c) (Fin.ext ?_) (Fin.ext ?_) <;> blk_simp [idx3 t]
  rw [after3_7]
  by_cases h : t.val % 8 = 0
  · rw [outsAt3_A V c t h]; frame_out; exact key
  · rw [outsAt3_B V c t h]; frame_out; exact key

/-- The array of maxima after the fourth pass. -/
theorem out3_p : (dat3 V c).arrAt 8 cfg3.N = fun i => P3 V c (i 0) (i 1) := by
  refine (dat3 V c).arrAt_eq_of_covers 8 _ (by decide +kernel) fun t hf y => ?_
  blk_simp [idx3 t]
  have key : k3_pay9 (iblk3 V c 0 t) (iblk3 V c 2 t) (iblk3 V c 1 t) (iblk3 V c 6 t) (iblk3 V c 4 t) (iblk3 V c 5 t) y
      = P3 V c (((View.whole main_v224_1).slice (win3_8.rect t)).emb y 0) (((View.whole main_v224_1).slice (win3_8.rect t)).emb y 1) := by
    rw [show (y : S256x128.Idx) = ix2 (y 0) (y 1) from (ix2_eta y).symm]
    refine (pay3_9 _ _ _ _ _ _ (y 0) (y 1)).trans ((pblk3 V c t (y 0) (grp3 t _) (y 1)).trans ?_)
    refine congrArg₂ (P3 V c) (Fin.ext ?_) (Fin.ext ?_) <;> blk_simp [idx3 t]
  rw [after3_8]
  by_cases h : t.val % 8 = 0
  · rw [outsAt3_A V c t h]; frame_out; exact key
  · rw [outsAt3_B V c t h]; frame_out; exact key

/-- The masked sums of the next layer's columns. -/
theorem out3_s : (dat3 V c).arrAt 9 cfg3.N = fun i => ∑ n : Fin 131072, H3 V c n (i 1) * M3 V c n (i 1) := by
  refine (dat3 V c).arrAt_eq_of_after_last 9 t3_7 (by decide +kernel) _ fun j => ?_
  blk_simp
  rw [after3_9, Pipeline.eq_sum_fin_of_reset_step_apply_last (fun n h => (outsAt3 V c n h).2.2.1) 8 (fun _ => 0) _
    (fun t h j => by rw [outsAt3_A V c t h]; frame_out; rw [pay3_s, pay3_5])
    (fun t h j => by rw [outsAt3_B V c t h]; frame_out; rw [pay3_s])
    (le_of_eq N_3) t3_7 rfl j, zero_add]
  refine Fin.sum_mul_add_congr fun t n h => Ideal.mul_congr (hblk3 V c t n h _) (mblk3 V c t n h _)

/-- The masked sums of the next layer's squared columns. -/
theorem out3_q : (dat3 V c).arrAt 10 cfg3.N = fun i => ∑ n : Fin 131072, H3 V c n (i 1) * M3 V c n (i 1) * H3 V c n (i 1) := by
  refine (dat3 V c).arrAt_eq_of_after_last 10 t3_7 (by decide +kernel) _ fun j => ?_
  blk_simp
  rw [after3_10, Pipeline.eq_sum_fin_of_reset_step_apply_last (fun n h => (outsAt3 V c n h).2.2.2) 8 (fun _ => 0) _
    (fun t h j => by rw [outsAt3_A V c t h]; frame_out; rw [pay3_q, pay3_6])
    (fun t h j => by rw [outsAt3_B V c t h]; frame_out; rw [pay3_q])
    (le_of_eq N_3) t3_7 rfl j, zero_add]
  refine Fin.sum_mul_add_congr fun t n h => Ideal.mul_congr (Ideal.mul_congr (hblk3 V c t n h _) (mblk3 V c t n h _)) (hblk3 V c t n h _)

end Cert.KernelIdeal.Pure

end
-- ==== Proof.Region4.lean ====
/- What the arrays of the fifth pass hold after it, for any contents it is entered with. -/
module

public import proofs.«01_k».proof.Proof.KPure3
public import proofs.«01_k».proof.Proof.Gen.KernelIdeal.Frame.Region4
public import Idealize.ShloMosaic.Lib.Pipeline.ValueKit

@[expose] public section

set_option maxRecDepth 16384

noncomputable section

namespace Cert.KernelIdeal.Pure

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The blocks' places at a point. -/
theorem idx4 : ∀ t : Fin cfg4.N, win4_0.index t = ![t.val, 0] ∧ win4_1.index t = ![t.val, 0] ∧ win4_2.index t = ![0, t.val]
    ∧ win4_3.index t = ![0, 0] ∧ win4_4.index t = ![0, 0] ∧ win4_5.index t = ![0, 0] ∧ win4_6.index t = ![0, 0] ∧ win4_7.index t = ![0, 0]
    ∧ win4_8.index t = ![t.val, 0] :=
  (by decide +kernel : ∀ t : Fin grid4.N, _)

/-- The activations the fifth pass leaves. -/
def Z4 (n : Fin 131072) (j : Fin 128) : EReal :=
  layCat (N := 131072) (M := 2048) (by rfl) (V c main_v224_0) (V c main_v224_1) (V c main_v100) (V c main_v248) (V c main_v250) (V c main_v41) (V c main_v140) n j

/-- A block's rows lie within the array. -/
theorem row4 (t : Fin cfg4.N) (n : Fin 16384) : t.val * 16384 + n.val < 131072 := by
  have h := lt_of_lt_of_eq t.isLt N_4
  have := n.isLt
  omega

/-- The maximum of a row's group in a block is the whole array's. -/
theorem pblk4 (t : Fin cfg4.N) (n : Fin 16384) (h : t.val * 16384 + n.val < 131072) (h1 : n.val / 64 < 256)
    (h2 : (t.val * 16384 + n.val) / 64 < 2048) (j : Fin 128) :
    (iblk4 V c 1 t : FVec Ideal S256x128 .bf16) (ix2 ⟨n.val / 64, h1⟩ j)
      = (V c main_v224_1 : FVec Ideal S2048x128 .bf16) (ix2 ⟨(t.val * 16384 + n.val) / 64, h2⟩ j) := by
  have e : (⟨(t.val * 16384 + n.val) / 64, h2⟩ : Fin 2048) = ⟨t.val * 256 + n.val / 64, by omega⟩ := Fin.ext (by
    show (t.val * 16384 + n.val) / 64 = t.val * 256 + n.val / 64
    omega)
  rw [e]
  blk_point [iblk4, idx4 t]

/-- A block's incoming activations are the whole array's at the block's rows. -/
theorem zblk4 (t : Fin cfg4.N) (n : Fin 16384) (h : t.val * 16384 + n.val < 131072) (k : Fin 128) :
    (iblk4 V c 0 t : FVec Ideal S16384x128 .bf16) (ix2 n k) = (V c main_v224_0 : FVec Ideal S131072x128 .bf16) (ix2 ⟨t.val * 16384 + n.val, h⟩ k) := by
  blk_point [iblk4, idx4 t]

/-- The joined weights' block is the whole array. -/
theorem cblk4 (t : Fin cfg4.N) (k : Fin 256) (j : Fin 128) :
    (iblk4 V c 3 t : FVec Ideal S256x128 .bf16) (ix2 k j) = (V c main_v100 : FVec Ideal S256x128 .bf16) (ix2 k j) := by
  blk_point [iblk4, idx4 t]

/-- The affine form, the rectifier and the mask of a block are the whole array's at the block's rows. -/
theorem ablk4 (t : Fin cfg4.N) (n : Fin 16384) (h : t.val * 16384 + n.val < 131072) (j : Fin 128) (x y : EReal) (hx : x = y) :
    act x (iblk4 V c 5 t) (iblk4 V c 6 t) (mex (iblk4 V c 2 t) (iblk4 V c 7 t) n j) j
      = act (J := 128) y (V c main_v248) (V c main_v250) (mex (N := 131072) (J := 128) (V c main_v41) (V c main_v140) ⟨t.val * 16384 + n.val, h⟩ j) j := by
  subst hx
  unfold act mex
  blk_point [iblk4, idx4 t]

/-- A block's activations are the whole array's at the block's rows. -/
theorem blk4 (t : Fin cfg4.N) (n : Fin 16384) (h : t.val * 16384 + n.val < 131072) (j : Fin 128) :
    layCat (M := 256) (by rfl) (iblk4 V c 0 t) (iblk4 V c 1 t) (iblk4 V c 3 t) (iblk4 V c 5 t) (iblk4 V c 6 t) (iblk4 V c 2 t) (iblk4 V c 7 t) n j
      = Z4 V c ⟨t.val * 16384 + n.val, h⟩ j := by
  unfold Z4 layCat
  refine ablk4 V c t n h j _ _ ?_
  unfold hidCat
  refine Ideal.add_congr (Fin.sum_fin_congr fun k => Ideal.mul_congr (zblk4 V c t n h k) (cblk4 V c t _ j))
    (Fin.sum_fin_congr fun k => Ideal.mul_congr (pblk4 V c t n h _ _ k) (cblk4 V c t _ j))

/-- The weights' block is the whole array. -/
theorem wblk4 (t : Fin cfg4.N) (k j : Fin 128) :
    (iblk4 V c 4 t : FVec Ideal S128x128 .bf16) (ix2 k j) = (V c main_v109 : FVec Ideal S128x128 .bf16) (ix2 k j) := by
  blk_point [iblk4, idx4 t]

/-- The array of activations after the fifth pass. -/
theorem out4_z : (dat4 V c).arrAt 8 cfg4.N = fun i => Z4 V c (i 0) (i 1) := by
  refine (dat4 V c).arrAt_eq_of_covers 8 _ (by decide +kernel) fun t hf y => ?_
  blk_simp [idx4 t]
  have key : k4_pay6 (iblk4 V c 1 t) (iblk4 V c 0 t) (iblk4 V c 3 t) (iblk4 V c 5 t) (iblk4 V c 6 t) (iblk4 V c 2 t) (iblk4 V c 7 t) y
      = Z4 V c (((View.whole main_v251_0).slice (win4_8.rect t)).emb y 0) (((View.whole main_v251_0).slice (win4_8.rect t)).emb y 1) := by
    rw [show (y : S16384x128.Idx) = ix2 (y 0) (y 1) from (ix2_eta y).symm]
    refine (pay4_6 _ _ _ _ _ _ _ (y 0) (y 1)).trans ((blk4 V c t (y 0) (row4 t _) (y 1)).trans ?_)
    refine congrArg₂ (Z4 V c) (Fin.ext ?_) (Fin.ext ?_) <;> blk_simp [idx4 t]
  rw [after4_8]
  by_cases h : t.val % 8 = 0
  · rw [outsAt4_A V c t h]; frame_out; exact key
  · rw [outsAt4_B V c t h]; frame_out; exact key

/-- The sums of the next layer's columns after the fifth pass. -/
theorem out4_s : (dat4 V c).arrAt 9 cfg4.N
    = fun i => ∑ n : Fin 131072, ∑ k : Fin 128, Z4 V c n k * (V c main_v109 : FVec Ideal S128x128 .bf16) (ix2 k (i 1)) := by
  refine (dat4 V c).arrAt_eq_of_after_last 9 t4_7 (by decide +kernel) _ fun j => ?_
  blk_simp
  rw [after4_9, Pipeline.eq_sum_fin_of_reset_step_apply_last (fun n h => (outsAt4 V c n h).2.1) 8 (fun _ => 0) _
    (fun t h j => by rw [outsAt4_A V c t h]; frame_out; rw [pay4_s, pay4_4])
    (fun t h j => by rw [outsAt4_B V c t h]; frame_out; rw [pay4_s])
    (le_of_eq N_4) t4_7 rfl j, zero_add]
  refine Fin.sum_mul_add_congr fun t n h => Fin.sum_fin_congr fun k => Ideal.mul_congr (blk4 V c t n h k) (wblk4 V c t k _)

/-- The sums of the next layer's squared columns after the fifth pass. -/
theorem out4_q : (dat4 V c).arrAt 10 cfg4.N
    = fun i => ∑ n : Fin 131072, (∑ k : Fin 128, Z4 V c n k * (V c main_v109 : FVec Ideal S128x128 .bf16) (ix2 k (i 1)))
        * ∑ k : Fin 128, Z4 V c n k * (V c main_v109 : FVec Ideal S128x128 .bf16) (ix2 k (i 1)) := by
  refine (dat4 V c).arrAt_eq_of_after_last 10 t4_7 (by decide +kernel) _ fun j => ?_
  blk_simp
  rw [after4_10, Pipeline.eq_sum_fin_of_reset_step_apply_last (fun n h => (outsAt4 V c n h).2.2) 8 (fun _ => 0) _
    (fun t h j => by rw [outsAt4_A V c t h]; frame_out; rw [pay4_q, pay4_5])
    (fun t h j => by rw [outsAt4_B V c t h]; frame_out; rw [pay4_q])
    (le_of_eq N_4) t4_7 rfl j, zero_add]
  refine Fin.sum_mul_add_congr fun t n h => Ideal.mul_congr
    (Fin.sum_fin_congr fun k => Ideal.mul_congr (blk4 V c t n h k) (wblk4 V c t k _))
    (Fin.sum_fin_congr fun k => Ideal.mul_congr (blk4 V c t n h k) (wblk4 V c t k _))

end Cert.KernelIdeal.Pure

end
-- ==== Proof.Region5.lean ====
/- What the arrays of the last pass hold after it, for any contents it is entered with. -/
module

public import proofs.«01_k».proof.Proof.KPure3
public import proofs.«01_k».proof.Proof.Gen.KernelIdeal.Frame.Region5
public import Idealize.ShloMosaic.Lib.Pipeline.ValueKit

@[expose] public section

set_option maxRecDepth 16384

noncomputable section

namespace Cert.KernelIdeal.Pure

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The blocks' places at a point. -/
theorem idx5 : ∀ t : Fin cfg5.N, win5_0.index t = ![t.val, 0] ∧ win5_1.index t = ![0, t.val] ∧ win5_2.index t = ![0, t.val]
    ∧ win5_3.index t = ![0, 0] ∧ win5_4.index t = ![0, 0] ∧ win5_5.index t = ![0, 0] ∧ win5_6.index t = ![0, 0] ∧ win5_7.index t = ![0, 0]
    ∧ win5_8.index t = ![0, 0] ∧ win5_9.index t = ![0, 0] ∧ win5_10.index t = ![0, 0] ∧ win5_11.index t = ![t.val, 0] :=
  (by decide +kernel : ∀ t : Fin grid5.N, _)

/-- The last layer's activations. -/
def Z5 (n : Fin 131072) (j : Fin 128) : EReal :=
  lay (N := 131072) (K := 128) (J := 128) (V c main_v251_0) (V c main_v109) (V c main_v275) (V c main_v277) (V c main_v41) (V c main_v140) n j

/-- The result of the last pass. -/
def O5 (g : Fin 2048) (j : Fin 128) : EReal :=
  outp (M := 2048) (pool64 (by rfl) (Z5 V c)) (V c main_v118) (V c main_v129) (V c main_v127) (V c main_v131) (V c main_v52) (V c main_v140) g j

/-- A block's rows lie within the array. -/
theorem row5 (t : Fin cfg5.N) (n : Fin 16384) : t.val * 16384 + n.val < 131072 := by
  have h := lt_of_lt_of_eq t.isLt N_5
  have := n.isLt
  omega

/-- A block's groups lie within the array. -/
theorem grp5 (t : Fin cfg5.N) (n : Fin 256) : t.val * 256 + n.val < 2048 := by
  have h := lt_of_lt_of_eq t.isLt N_5
  have := n.isLt
  omega

/-- A block's activations are the whole array's at the block's rows. -/
theorem blk5 (t : Fin cfg5.N) (n : Fin 16384) (h : t.val * 16384 + n.val < 131072) (j : Fin 128) :
    lay (iblk5 V c 0 t) (iblk5 V c 3 t) (iblk5 V c 4 t) (iblk5 V c 5 t) (iblk5 V c 1 t) (iblk5 V c 6 t) n j
      = Z5 V c ⟨t.val * 16384 + n.val, h⟩ j := by
  unfold Z5 lay act hid mex
  blk_point [iblk5, idx5 t]

/-- The maxima of a block's groups are the whole array's at those groups. -/
theorem pblk5 (t : Fin cfg5.N) (g : Fin 256) (h : t.val * 256 + g.val < 2048) (j : Fin 128) :
    pool64 (by rfl) (lay (iblk5 V c 0 t) (iblk5 V c 3 t) (iblk5 V c 4 t) (iblk5 V c 5 t) (iblk5 V c 1 t) (iblk5 V c 6 t)) g j
      = pool64 (M := 2048) (by rfl) (Z5 V c) ⟨t.val * 256 + g.val, h⟩ j := by
  unfold pool64
  refine Finset.fold_congr fun l _ => (blk5 V c t _ (row5 t _) j).trans (congrArg (fun n => Z5 V c n j) (Fin.ext ?_))
  show t.val * 16384 + (g.val * 64 + l.val) = (t.val * 256 + g.val) * 64 + l.val
  ring

/-- The output layers of a block's group are the whole array's at that group. -/
theorem oblk5 (t : Fin cfg5.N) (g : Fin 256) (h : t.val * 256 + g.val < 2048) (j : Fin 128) (p : Fin 256 → Fin 128 → EReal) (q : Fin 2048 → Fin 128 → EReal)
    (hp : ∀ k, p g k = q ⟨t.val * 256 + g.val, h⟩ k) :
    outp (M := 256) p (iblk5 V c 7 t) (iblk5 V c 8 t) (iblk5 V c 9 t) (iblk5 V c 10 t) (iblk5 V c 2 t) (iblk5 V c 6 t) g j
      = outp (M := 2048) q (V c main_v118) (V c main_v129) (V c main_v127) (V c main_v131) (V c main_v52) (V c main_v140) ⟨t.val * 256 + g.val, h⟩ j := by
  unfold outp mex
  simp only [hp]
  blk_point [iblk5, idx5 t]

/-- The array the last pass leaves. -/
theorem out5_y : (dat5 V c).arrAt 11 cfg5.N = fun i => O5 V c (i 0) (i 1) := by
  refine (dat5 V c).arrAt_eq_of_covers 11 _ (by decide +kernel) fun t hf y => ?_
  blk_simp [idx5 t]
  have key : k5_pay1 (k5_pay2 (iblk5 V c 0 t) (iblk5 V c 3 t) (iblk5 V c 4 t) (iblk5 V c 5 t) (iblk5 V c 1 t) (iblk5 V c 6 t) (iblk5 V c 7 t) (iblk5 V c 8 t))
        (iblk5 V c 9 t) (iblk5 V c 10 t) (iblk5 V c 2 t) (iblk5 V c 6 t) y
      = O5 V c (((View.whole main_v278).slice (win5_11.rect t)).emb y 0) (((View.whole main_v278).slice (win5_11.rect t)).emb y 1) := by
    refine (pay5_1 _ _ _ _ _ _ _ _ _ _ _ y).trans ((oblk5 V c t (y 0) (grp5 t _) (y 1) _ _ (pblk5 V c t _ (grp5 t _))).trans ?_)
    refine congrArg₂ (O5 V c) (Fin.ext ?_) (Fin.ext ?_) <;> blk_simp [idx5 t]
  rw [after5_11]
  frame_out
  exact key

end Cert.KernelIdeal.Pure

end
-- ==== Proof.Equation.lean ====
/- The kernel's passes, one after another: each leaves the layer it stands for, the rows in two halves side by side. -/
module

public import proofs.«01_k».proof.Proof.Base
public import proofs.«01_k».proof.Proof.HostB
public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Region5

@[expose] public section

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Host Cert.Net
open Cert.KernelIdeal.Pure (hid mex lay pool64 hidCat layCat outp msum)

section general
variable {v : Fin 262144 → EReal} (hv : ∀ r, IsBit (v r))
include hv

/-- The two halves' sums of a masked layer, and of its square. -/
theorem sums {H : Fin 131072 → Fin 128 → EReal} {h : Fin 262144 → Fin 64 → EReal} (hp : Packs H fun r c => h r c * v r) (c : Fin 64) :
    (∑ n, H n (pk 0 c)) + (∑ n, H n (pk 1 c)) = ∑ r, h r c * v r := col_sum hp c
/-- The two halves' sums of a masked layer's squares are the sum of the squares over the rows that count. -/
theorem sqs {H : Fin 131072 → Fin 128 → EReal} {h : Fin 262144 → Fin 64 → EReal} (hp : Packs H fun r c => h r c * v r) (c : Fin 64) :
    (∑ n, H n (pk 0 c) * H n (pk 0 c)) + (∑ n, H n (pk 1 c) * H n (pk 1 c)) = ∑ r, h r c * h r c * v r :=
  col_sum (S := fun n j => H n j * H n j) (s := fun r c => h r c * h r c * v r) (fun p n c => by
    show H n (pk p c) * H n (pk p c) = _
    rw [hp p n c]; exact sq_bit _ _ (hv _)) c

/-- The next layer's products, of packed rows. -/
theorem lin_packs {Z : Fin 131072 → Fin 128 → EReal} {W : Fin 128 → Fin 128 → EReal} {x : Fin 262144 → Fin 64 → EReal} {w : Fin 64 → Fin 64 → EReal}
    (hz : Packs Z (msk v x)) (hw : BDiag W w) : Packs (fun n j => ∑ k, Z n k * W k j) fun r c => lin x w r c * v r :=
  fun p n c => (hid_packs hw (msk v x) (rw2 p n) p (fun k => hz p n k) c).trans (lin_msk x w v hv _ c)

/-- One layer's activations, of packed rows. -/
theorem lay_step {K : ℕ} {h : Fin 262144 → Fin 64 → EReal} (hh : ∀ r c, IsFin (h r c)) {g b : Fin 64 → EReal} (hg : ∀ c, IsFin (g c))
    {H : Fin 131072 → Fin 128 → EReal} {a d : FVec Ideal ⟨2, ![1, 128]⟩ .f32} {mp : FVec Ideal ⟨2, ![2, 131072]⟩ .bf16} {e : FVec Ideal ⟨2, ![2, 128]⟩ .bf16}
    (hH : Packs H (fun r c => h r c * v r) ∨ Packs H h)
    (hm : ∀ p n, at2 mp p n = v (rw2 p n)) (he : ∀ q p c, at2 e q (pk p c) = if q = p then 1 else 0)
    (ha : ∀ p c, at2 a 0 (pk p c) = affA (∑ r, h r c * v r) (∑ r, (h r c * h r c) * v r) (cnt v) (g c))
    (hd : ∀ p c, at2 d 0 (pk p c) = affD (∑ r, h r c * v r) (∑ r, (h r c * h r c) * v r) (cnt v) (g c) (b c)) :
    Packs (fun n j => Pure.act (H n j) a d (mex mp e n j) j) (msk v (act v h g b)) := by
  refine lay_packs hv hh hg (H := H) (M := mex mp e) (a := fun j => at2 a 0 j) (d := fun j => at2 d 0 j) (fun p n c h1 => ?_)
    (mask_packs hm he) ha hd (fun n j => rfl)
  rcases hH with hH | hH
  · exact (hH p n c).trans (by show h (rw2 p n) c * v (rw2 p n) = _; rw [h1, mul_one])
  · exact hH p n c

end general

/-- The factor of the affine form, from equal sums, count and scale. -/
theorem affA_of {s0 s1 q0 q1 cn g s q c g' : EReal} (hs : s0 + s1 = s) (hq : q0 + q1 = q) (hc : cn = c) (hg : g = g') :
    affA (s0 + s1) (q0 + q1) cn g = affA s q c g' := by rw [hs, hq, hc, hg]
/-- The offset of the affine form, from equal sums, count, scale and shift. -/
theorem affD_of {s0 s1 q0 q1 cn g b s q c g' b' : EReal} (hs : s0 + s1 = s) (hq : q0 + q1 = q) (hc : cn = c) (hg : g = g') (hb : b = b') :
    affD (s0 + s1) (q0 + q1) cn g b = affD s q c g' b' := by rw [hs, hq, hc, hg, hb]

variable (m : (ℓ : Loc nD τ sig) → Buf (Elt Ideal) ℓ) (ρ : Dev nD → PrngReg) (c : Dev nD) (ok : (prm m c).Ok)

/-- The first layer's products, at the contents of any level. -/
theorem hid0 {P : Params} (ok : P.Ok) {V : Valuation τ sig (Elt Ideal)} (b : Base P V) :
    Packs (hid (N := 131072) (K := 10) (J := 128) (V (Proc.devRef .tc main_v33)) (V (Proc.devRef .tc main_v61))) fun r c => P.h0 r c * P.v r :=
  fun p n c' => (bd_sum rfl p (fun l => at2 (N := 131072) (K := 10) (φ := .bf16) (V (Proc.devRef .tc main_v33)) n l)
    (fun l => at2 (N := 10) (K := 128) (φ := .bf16) (V (Proc.devRef .tc main_v61)) l (pk p c')) (fun k => P.x (rw2 p n) k * P.v (rw2 p n)) (P.w0 c')
    (fun k h => b.v33 p n k h) (fun q k h => b.v61 q p k c' h)).trans (lin_msk P.x P.w0 P.v ok.v (rw2 p n) c')

include ok in
/-- After the first pass the two halves' sums add up to the first layer's column sum over the rows that count. -/
theorem s0 (c' : Fin 64) : at2 (N := 1) (K := 128) (φ := .f32) (W18 m ρ c (Proc.devRef .tc main_v141_0)) 0 (pk 0 c') + at2 (N := 1) (K := 128) (φ := .f32) (W18 m ρ c (Proc.devRef .tc main_v141_0)) 0 (pk 1 c') = ∑ r, (prm m c).h0 r c' * (prm m c).v r := by
  have e : W18 m ρ c (Proc.devRef .tc main_v141_0) = _ := (W18_arr m ρ c 3).trans (Pure.out0_s (V17 m ρ) c)
  rw [e]
  exact sums ok.v (hid0 ok (base17 m ρ c)) c'
include ok in
/-- After the first pass the two halves' sums of squares add up to the first layer's over the rows that count. -/
theorem q0 (c' : Fin 64) : at2 (N := 1) (K := 128) (φ := .f32) (W18 m ρ c (Proc.devRef .tc main_v141_1)) 0 (pk 0 c') + at2 (N := 1) (K := 128) (φ := .f32) (W18 m ρ c (Proc.devRef .tc main_v141_1)) 0 (pk 1 c') = ∑ r, (prm m c).h0 r c' * (prm m c).h0 r c' * (prm m c).v r := by
  have e : W18 m ρ c (Proc.devRef .tc main_v141_1) = _ := (W18_arr m ρ c 4).trans (Pure.out0_q (V17 m ρ) c)
  rw [e]
  exact sqs ok.v (hid0 ok (base17 m ρ c)) c'

/-- How many rows count, at least one. -/
theorem cnt18 : Max.max (α := EReal) ((W18 m ρ c (Proc.devRef .tc main_v141_2) : FVec Ideal S1x1 .f32) (ix2 0 0)) 1 = cnt (prm m c).v := by
  have e : W18 m ρ c (Proc.devRef .tc main_v141_2) = _ := (W18_arr m ρ c 5).trans (Pure.out0_c (V17 m ρ) c)
  rw [e]
  exact cnt_packs (mp := fun q n => at2 (N := 2) (K := 131072) (φ := .bf16) (W17 m ρ c (Proc.devRef .tc main_v41)) q n) (base17 m ρ c).v41
/-- The array of the number of rows that count holds it when the second pass begins. -/
theorem cnt19 : (W19 m ρ c (Proc.devRef .tc main_v143) : FVec Ideal S_ .f32) ix0 = cnt (prm m c).v := (h1_v143 (W18 m ρ c) ix0).trans (cnt18 m ρ c)
/-- The array of the number of rows that count holds it after the second pass. -/
theorem cnt20 : (W20 m ρ c (Proc.devRef .tc main_v143) : FVec Ideal S_ .f32) ix0 = cnt (prm m c).v :=
  (congrArg (fun a : FVec Ideal S_ .f32 => (a ix0 : EReal)) (W20_of m ρ c main_v143 (by decide +kernel))).trans (cnt19 m ρ c)
/-- The array of the number of rows that count holds it when the third pass begins. -/
theorem cnt21 : (W21 m ρ c (Proc.devRef .tc main_v143) : FVec Ideal S_ .f32) ix0 = cnt (prm m c).v :=
  (congrArg (fun a : FVec Ideal S_ .f32 => (a ix0 : EReal)) (W21_of m ρ c main_v143 (by decide))).trans (cnt20 m ρ c)
/-- The array of the number of rows that count holds it after the third pass. -/
theorem cnt22 : (W22 m ρ c (Proc.devRef .tc main_v143) : FVec Ideal S_ .f32) ix0 = cnt (prm m c).v :=
  (congrArg (fun a : FVec Ideal S_ .f32 => (a ix0 : EReal)) (W22_of m ρ c main_v143 (by decide +kernel))).trans (cnt21 m ρ c)
/-- The array of the number of rows that count holds it when the fourth pass begins. -/
theorem cnt23 : (W23 m ρ c (Proc.devRef .tc main_v143) : FVec Ideal S_ .f32) ix0 = cnt (prm m c).v :=
  (congrArg (fun a : FVec Ideal S_ .f32 => (a ix0 : EReal)) (W23_of m ρ c main_v143 (by decide))).trans (cnt22 m ρ c)
/-- The array of the number of rows that count holds it after the fourth pass. -/
theorem cnt24 : (W24 m ρ c (Proc.devRef .tc main_v143) : FVec Ideal S_ .f32) ix0 = cnt (prm m c).v :=
  (congrArg (fun a : FVec Ideal S_ .f32 => (a ix0 : EReal)) (W24_of m ρ c main_v143 (by decide +kernel))).trans (cnt23 m ρ c)
/-- The array of the number of rows that count holds it when the fifth pass begins. -/
theorem cnt25 : (W25 m ρ c (Proc.devRef .tc main_v143) : FVec Ideal S_ .f32) ix0 = cnt (prm m c).v :=
  (congrArg (fun a : FVec Ideal S_ .f32 => (a ix0 : EReal)) (W25_of m ρ c main_v143 (by decide))).trans (cnt24 m ρ c)
/-- The array of the number of rows that count holds it after the fifth pass. -/
theorem cnt26 : (W26 m ρ c (Proc.devRef .tc main_v143) : FVec Ideal S_ .f32) ix0 = cnt (prm m c).v :=
  (congrArg (fun a : FVec Ideal S_ .f32 => (a ix0 : EReal)) (W26_of m ρ c main_v143 (by decide +kernel))).trans (cnt25 m ρ c)

/-! The second pass. -/
include ok in
/-- When the second pass begins, both halves hold the factor of the first layer's affine form. -/
theorem a1 (p : Fin 2) (c' : Fin 64) : at2 (N := 1) (K := 128) (φ := .f32) (W19 m ρ c (Proc.devRef .tc main_v167)) 0 (pk p c') = affA (∑ r, (prm m c).h0 r c' * (prm m c).v r) (∑ r, ((prm m c).h0 r c' * (prm m c).h0 r c') * (prm m c).v r) (cnt (prm m c).v) ((prm m c).g0 c') :=
  (h1_v167 (W18 m ρ c) p c').trans (affA_of (s0 m ρ c ok c') (q0 m ρ c ok c') (cnt18 m ρ c) ((base18 m ρ c).g0 c'))
include ok in
/-- When the second pass begins, both halves hold the offset of the first layer's affine form. -/
theorem d1 (p : Fin 2) (c' : Fin 64) : at2 (N := 1) (K := 128) (φ := .f32) (W19 m ρ c (Proc.devRef .tc main_v169)) 0 (pk p c') = affD (∑ r, (prm m c).h0 r c' * (prm m c).v r) (∑ r, ((prm m c).h0 r c' * (prm m c).h0 r c') * (prm m c).v r) (cnt (prm m c).v) ((prm m c).g0 c') ((prm m c).b0 c') :=
  (h1_v169 (W18 m ρ c) p c').trans (affD_of (s0 m ρ c ok c') (q0 m ρ c ok c') (cnt18 m ρ c) ((base18 m ρ c).g0 c') ((base18 m ρ c).b0 c'))
include ok in
/-- What the pass computes. -/
theorem z1 : Packs (Pure.Z1 (V19 m ρ) c) (msk (prm m c).v (prm m c).x1) :=
  lay_step (K := 128) ok.v ok.h0_fin ok.g0 (.inl (hid0 ok (base19 m ρ c))) (base19 m ρ c).v41 (base19 m ρ c).v140 (a1 m ρ c ok) (d1 m ρ c ok)
include ok in
/-- After the second pass the two halves' sums add up to the second layer's column sum over the rows that count. -/
theorem s1 (c' : Fin 64) : at2 (N := 1) (K := 128) (φ := .f32) (W20 m ρ c (Proc.devRef .tc main_v170_1)) 0 (pk 0 c') + at2 (N := 1) (K := 128) (φ := .f32) (W20 m ρ c (Proc.devRef .tc main_v170_1)) 0 (pk 1 c') = ∑ r, (prm m c).h1 r c' * (prm m c).v r := by
  have e : W20 m ρ c (Proc.devRef .tc main_v170_1) = _ := (W20_arr m ρ c 8).trans (Pure.out1_s (V19 m ρ) c)
  rw [e]
  exact sums ok.v (lin_packs ok.v (z1 m ρ c ok) (base19 m ρ c).v70) c'
include ok in
/-- After the second pass the two halves' sums of squares add up to the second layer's over the rows that count. -/
theorem q1 (c' : Fin 64) : at2 (N := 1) (K := 128) (φ := .f32) (W20 m ρ c (Proc.devRef .tc main_v170_2)) 0 (pk 0 c') + at2 (N := 1) (K := 128) (φ := .f32) (W20 m ρ c (Proc.devRef .tc main_v170_2)) 0 (pk 1 c') = ∑ r, (prm m c).h1 r c' * (prm m c).h1 r c' * (prm m c).v r := by
  have e : W20 m ρ c (Proc.devRef .tc main_v170_2) = _ := (W20_arr m ρ c 9).trans (Pure.out1_q (V19 m ρ) c)
  rw [e]
  exact sqs ok.v (lin_packs ok.v (z1 m ρ c ok) (base19 m ρ c).v70) c'
/-- The second pass's activations are still in their array when the next pass begins. -/
theorem y1 : at2 (N := 131072) (K := 128) (φ := .bf16) (W21 m ρ c (Proc.devRef .tc main_v170_0)) = Pure.Z1 (V19 m ρ) c := by
  have e : W20 m ρ c (Proc.devRef .tc main_v170_0) = _ := (W20_arr m ρ c 7).trans (Pure.out1_z (V19 m ρ) c)
  rw [W21_of m ρ c main_v170_0 (by decide), e]
  rfl
include ok in
/-- The array the next pass begins with holds the masked activations after one layer, in halves. -/
theorem p1 : Packs (at2 (N := 131072) (K := 128) (φ := .bf16) (W21 m ρ c (Proc.devRef .tc main_v170_0))) (msk (prm m c).v (prm m c).x1) := by
  rw [y1]; exact z1 m ρ c ok

/-! The third pass. -/
include ok in
/-- When the third pass begins, both halves hold the factor of the second layer's affine form. -/
theorem a2 (p : Fin 2) (c' : Fin 64) : at2 (N := 1) (K := 128) (φ := .f32) (W21 m ρ c (Proc.devRef .tc main_v194)) 0 (pk p c') = affA (∑ r, (prm m c).h1 r c' * (prm m c).v r) (∑ r, ((prm m c).h1 r c' * (prm m c).h1 r c') * (prm m c).v r) (cnt (prm m c).v) ((prm m c).g1 c') :=
  (h2_v194 (W20 m ρ c) p c').trans (affA_of (s1 m ρ c ok c') (q1 m ρ c ok c') (cnt20 m ρ c) ((base20 m ρ c).g1 c'))
include ok in
/-- When the third pass begins, both halves hold the offset of the second layer's affine form. -/
theorem d2 (p : Fin 2) (c' : Fin 64) : at2 (N := 1) (K := 128) (φ := .f32) (W21 m ρ c (Proc.devRef .tc main_v196)) 0 (pk p c') = affD (∑ r, (prm m c).h1 r c' * (prm m c).v r) (∑ r, ((prm m c).h1 r c' * (prm m c).h1 r c') * (prm m c).v r) (cnt (prm m c).v) ((prm m c).g1 c') ((prm m c).b1 c') :=
  (h2_v196 (W20 m ρ c) p c').trans (affD_of (s1 m ρ c ok c') (q1 m ρ c ok c') (cnt20 m ρ c) ((base20 m ρ c).g1 c') ((base20 m ρ c).b1 c'))
include ok in
/-- What the pass computes. -/
theorem z2 : Packs (Pure.Z2 (V21 m ρ) c) (msk (prm m c).v (prm m c).x2) :=
  lay_step (K := 128) ok.v ok.h1_fin ok.g1 (.inl (lin_packs ok.v (p1 m ρ c ok) (base21 m ρ c).v70)) (base21 m ρ c).v41 (base21 m ρ c).v140 (a2 m ρ c ok) (d2 m ρ c ok)
include ok in
/-- After the third pass the two halves' sums add up to the third layer's column sum over the rows that count. -/
theorem s2 (c' : Fin 64) : at2 (N := 1) (K := 128) (φ := .f32) (W22 m ρ c (Proc.devRef .tc main_v197_1)) 0 (pk 0 c') + at2 (N := 1) (K := 128) (φ := .f32) (W22 m ρ c (Proc.devRef .tc main_v197_1)) 0 (pk 1 c') = ∑ r, (prm m c).h2 r c' * (prm m c).v r := by
  have e : W22 m ρ c (Proc.devRef .tc main_v197_1) = _ := (W22_arr m ρ c 8).trans (Pure.out2_s (V21 m ρ) c)
  rw [e]
  exact sums ok.v (lin_packs ok.v (z2 m ρ c ok) (base21 m ρ c).v79) c'
include ok in
/-- After the third pass the two halves' sums of squares add up to the third layer's over the rows that count. -/
theorem q2 (c' : Fin 64) : at2 (N := 1) (K := 128) (φ := .f32) (W22 m ρ c (Proc.devRef .tc main_v197_2)) 0 (pk 0 c') + at2 (N := 1) (K := 128) (φ := .f32) (W22 m ρ c (Proc.devRef .tc main_v197_2)) 0 (pk 1 c') = ∑ r, (prm m c).h2 r c' * (prm m c).h2 r c' * (prm m c).v r := by
  have e : W22 m ρ c (Proc.devRef .tc main_v197_2) = _ := (W22_arr m ρ c 9).trans (Pure.out2_q (V21 m ρ) c)
  rw [e]
  exact sqs ok.v (lin_packs ok.v (z2 m ρ c ok) (base21 m ρ c).v79) c'
/-- The third pass's activations are still in their array when the next pass begins. -/
theorem y2 : at2 (N := 131072) (K := 128) (φ := .bf16) (W23 m ρ c (Proc.devRef .tc main_v197_0)) = Pure.Z2 (V21 m ρ) c := by
  have e : W22 m ρ c (Proc.devRef .tc main_v197_0) = _ := (W22_arr m ρ c 7).trans (Pure.out2_z (V21 m ρ) c)
  rw [W23_of m ρ c main_v197_0 (by decide), e]
  rfl
include ok in
/-- The array the next pass begins with holds the masked activations after two layers, in halves. -/
theorem p2 : Packs (at2 (N := 131072) (K := 128) (φ := .bf16) (W23 m ρ c (Proc.devRef .tc main_v197_0))) (msk (prm m c).v (prm m c).x2) := by
  rw [y2]; exact z2 m ρ c ok

/-! The fourth pass. -/
include ok in
/-- When the fourth pass begins, both halves hold the factor of the third layer's affine form. -/
theorem a3 (p : Fin 2) (c' : Fin 64) : at2 (N := 1) (K := 128) (φ := .f32) (W23 m ρ c (Proc.devRef .tc main_v221)) 0 (pk p c') = affA (∑ r, (prm m c).h2 r c' * (prm m c).v r) (∑ r, ((prm m c).h2 r c' * (prm m c).h2 r c') * (prm m c).v r) (cnt (prm m c).v) ((prm m c).g2 c') :=
  (h3_v221 (W22 m ρ c) p c').trans (affA_of (s2 m ρ c ok c') (q2 m ρ c ok c') (cnt22 m ρ c) ((base22 m ρ c).g2 c'))
include ok in
/-- When the fourth pass begins, both halves hold the offset of the third layer's affine form. -/
theorem d3 (p : Fin 2) (c' : Fin 64) : at2 (N := 1) (K := 128) (φ := .f32) (W23 m ρ c (Proc.devRef .tc main_v223)) 0 (pk p c') = affD (∑ r, (prm m c).h2 r c' * (prm m c).v r) (∑ r, ((prm m c).h2 r c' * (prm m c).h2 r c') * (prm m c).v r) (cnt (prm m c).v) ((prm m c).g2 c') ((prm m c).b2 c') :=
  (h3_v223 (W22 m ρ c) p c').trans (affD_of (s2 m ρ c ok c') (q2 m ρ c ok c') (cnt22 m ρ c) ((base22 m ρ c).g2 c') ((base22 m ρ c).b2 c'))
include ok in
/-- What the pass computes. -/
theorem z3 : Packs (Pure.Z3 (V23 m ρ) c) (msk (prm m c).v (prm m c).x3) :=
  lay_step (K := 128) ok.v ok.h2_fin ok.g2 (.inl (lin_packs ok.v (p2 m ρ c ok) (base23 m ρ c).v79)) (base23 m ρ c).v41 (base23 m ρ c).v140 (a3 m ρ c ok) (d3 m ρ c ok)
include ok in
/-- The lanes' maxima. -/
theorem l3 : PacksL (Pure.P3 (V23 m ρ) c) (Cert.Net.pool (prm m c).f3) := fun p g c' => pool_packs (z3 m ρ c ok) p g c' _
include ok in
/-- The next layer's products, over the features beside the maxima. -/
theorem n3 : Packs (Pure.H3 (V23 m ρ) c) (prm m c).h3 :=
  fun p n c' => hidCat_packs (z3 m ρ c ok) (l3 m ρ c ok) (base23 m ρ c).v100a (base23 m ρ c).v100b p n c' (by have := n.isLt; omega)
/-- In the fourth pass the mask over the lanes is the mask of the row the half holds. -/
theorem m3 (p : Fin 2) (n : Fin 131072) (c' : Fin 64) : Pure.M3 (V23 m ρ) c n (pk p c') = (prm m c).v (rw2 p n) :=
  mask_packs (base23 m ρ c).v41 (base23 m ρ c).v140 p n c'
include ok in
/-- After the fourth pass the two halves' sums add up to the fourth layer's column sum over the rows that count. -/
theorem s3 (c' : Fin 64) : at2 (N := 1) (K := 128) (φ := .f32) (W24 m ρ c (Proc.devRef .tc main_v224_2)) 0 (pk 0 c') + at2 (N := 1) (K := 128) (φ := .f32) (W24 m ρ c (Proc.devRef .tc main_v224_2)) 0 (pk 1 c') = ∑ r, (prm m c).h3 r c' * (prm m c).v r := by
  have e : W24 m ρ c (Proc.devRef .tc main_v224_2) = _ := (W24_arr m ρ c 9).trans (Pure.out3_s (V23 m ρ) c)
  rw [e]
  exact col_sum (S := fun n j => Pure.H3 (V23 m ρ) c n j * Pure.M3 (V23 m ρ) c n j) (s := fun r c' => (prm m c).h3 r c' * (prm m c).v r)
    (fun p n c' => congrArg₂ (fun x y : EReal => x * y) (n3 m ρ c ok p n c') (m3 m ρ c p n c')) c'
include ok in
/-- After the fourth pass the two halves' sums of squares add up to the fourth layer's over the rows that count. -/
theorem q3 (c' : Fin 64) : at2 (N := 1) (K := 128) (φ := .f32) (W24 m ρ c (Proc.devRef .tc main_v224_3)) 0 (pk 0 c') + at2 (N := 1) (K := 128) (φ := .f32) (W24 m ρ c (Proc.devRef .tc main_v224_3)) 0 (pk 1 c') = ∑ r, (prm m c).h3 r c' * (prm m c).h3 r c' * (prm m c).v r := by
  have e : W24 m ρ c (Proc.devRef .tc main_v224_3) = _ := (W24_arr m ρ c 10).trans (Pure.out3_q (V23 m ρ) c)
  rw [e]
  exact col_sum (S := fun n j => Pure.H3 (V23 m ρ) c n j * Pure.M3 (V23 m ρ) c n j * Pure.H3 (V23 m ρ) c n j)
    (s := fun r c' => (prm m c).h3 r c' * (prm m c).h3 r c' * (prm m c).v r)
    (fun p n c' => (congrArg₂ (fun x y : EReal => x * y * x) (n3 m ρ c ok p n c') (m3 m ρ c p n c')).trans (sq_bit' _ _)) c'
/-- The fourth pass's activations are still in their array when the next pass begins. -/
theorem y3 : at2 (N := 131072) (K := 128) (φ := .bf16) (W25 m ρ c (Proc.devRef .tc main_v224_0)) = Pure.Z3 (V23 m ρ) c := by
  have e : W24 m ρ c (Proc.devRef .tc main_v224_0) = _ := (W24_arr m ρ c 7).trans (Pure.out3_z (V23 m ρ) c)
  rw [W25_of m ρ c main_v224_0 (by decide), e]
  rfl
/-- The fourth pass's maxima are still in their array when the next pass begins. -/
theorem y3p : at2 (N := 2048) (K := 128) (φ := .bf16) (W25 m ρ c (Proc.devRef .tc main_v224_1)) = Pure.P3 (V23 m ρ) c := by
  have e : W24 m ρ c (Proc.devRef .tc main_v224_1) = _ := (W24_arr m ρ c 8).trans (Pure.out3_p (V23 m ρ) c)
  rw [W25_of m ρ c main_v224_1 (by decide), e]
  rfl
include ok in
/-- The same products, from what the pass left. -/
theorem n4 : Packs (hidCat (N := 131072) (M := 2048) (by rfl) (at2 (N := 131072) (K := 128) (φ := .bf16) (W25 m ρ c (Proc.devRef .tc main_v224_0)))
    (at2 (N := 2048) (K := 128) (φ := .bf16) (W25 m ρ c (Proc.devRef .tc main_v224_1))) (W25 m ρ c (Proc.devRef .tc main_v100))) (prm m c).h3 := by
  rw [y3, y3p]
  exact fun p n c' => hidCat_packs (z3 m ρ c ok) (l3 m ρ c ok) (base25 m ρ c).v100a (base25 m ρ c).v100b p n c' (by have := n.isLt; omega)

/-! The fifth pass. -/
include ok in
/-- When the fifth pass begins, both halves hold the factor of the fourth layer's affine form. -/
theorem a4 (p : Fin 2) (c' : Fin 64) : at2 (N := 1) (K := 128) (φ := .f32) (W25 m ρ c (Proc.devRef .tc main_v248)) 0 (pk p c') = affA (∑ r, (prm m c).h3 r c' * (prm m c).v r) (∑ r, ((prm m c).h3 r c' * (prm m c).h3 r c') * (prm m c).v r) (cnt (prm m c).v) ((prm m c).g3 c') :=
  (h4_v248 (W24 m ρ c) p c').trans (affA_of (s3 m ρ c ok c') (q3 m ρ c ok c') (cnt24 m ρ c) ((base24 m ρ c).g3 c'))
include ok in
/-- When the fifth pass begins, both halves hold the offset of the fourth layer's affine form. -/
theorem d4 (p : Fin 2) (c' : Fin 64) : at2 (N := 1) (K := 128) (φ := .f32) (W25 m ρ c (Proc.devRef .tc main_v250)) 0 (pk p c') = affD (∑ r, (prm m c).h3 r c' * (prm m c).v r) (∑ r, ((prm m c).h3 r c' * (prm m c).h3 r c') * (prm m c).v r) (cnt (prm m c).v) ((prm m c).g3 c') ((prm m c).b3 c') :=
  (h4_v250 (W24 m ρ c) p c').trans (affD_of (s3 m ρ c ok c') (q3 m ρ c ok c') (cnt24 m ρ c) ((base24 m ρ c).g3 c') ((base24 m ρ c).b3 c'))
include ok in
/-- What the pass computes. -/
theorem z4 : Packs (Pure.Z4 (V25 m ρ) c) (msk (prm m c).v (prm m c).x4) :=
  lay_step (K := 128) ok.v ok.h3_fin ok.g3 (.inr (n4 m ρ c ok)) (base25 m ρ c).v41 (base25 m ρ c).v140 (a4 m ρ c ok) (d4 m ρ c ok)
include ok in
/-- After the fifth pass the two halves' sums add up to the fifth layer's column sum over the rows that count. -/
theorem s4 (c' : Fin 64) : at2 (N := 1) (K := 128) (φ := .f32) (W26 m ρ c (Proc.devRef .tc main_v251_1)) 0 (pk 0 c') + at2 (N := 1) (K := 128) (φ := .f32) (W26 m ρ c (Proc.devRef .tc main_v251_1)) 0 (pk 1 c') = ∑ r, (prm m c).h4 r c' * (prm m c).v r := by
  have e : W26 m ρ c (Proc.devRef .tc main_v251_1) = _ := (W26_arr m ρ c 9).trans (Pure.out4_s (V25 m ρ) c)
  rw [e]
  exact sums ok.v (lin_packs ok.v (z4 m ρ c ok) (base25 m ρ c).v109) c'
include ok in
/-- After the fifth pass the two halves' sums of squares add up to the fifth layer's over the rows that count. -/
theorem q4 (c' : Fin 64) : at2 (N := 1) (K := 128) (φ := .f32) (W26 m ρ c (Proc.devRef .tc main_v251_2)) 0 (pk 0 c') + at2 (N := 1) (K := 128) (φ := .f32) (W26 m ρ c (Proc.devRef .tc main_v251_2)) 0 (pk 1 c') = ∑ r, (prm m c).h4 r c' * (prm m c).h4 r c' * (prm m c).v r := by
  have e : W26 m ρ c (Proc.devRef .tc main_v251_2) = _ := (W26_arr m ρ c 10).trans (Pure.out4_q (V25 m ρ) c)
  rw [e]
  exact sqs ok.v (lin_packs ok.v (z4 m ρ c ok) (base25 m ρ c).v109) c'
/-- The fifth pass's activations are still in their array when the next pass begins. -/
theorem y4 : at2 (N := 131072) (K := 128) (φ := .bf16) (W27 m ρ c (Proc.devRef .tc main_v251_0)) = Pure.Z4 (V25 m ρ) c := by
  have e : W26 m ρ c (Proc.devRef .tc main_v251_0) = _ := (W26_arr m ρ c 8).trans (Pure.out4_z (V25 m ρ) c)
  rw [W27_of m ρ c main_v251_0 (by decide), e]
  rfl
include ok in
/-- The array the next pass begins with holds the masked activations after four layers, in halves. -/
theorem p4 : Packs (at2 (N := 131072) (K := 128) (φ := .bf16) (W27 m ρ c (Proc.devRef .tc main_v251_0))) (msk (prm m c).v (prm m c).x4) := by
  rw [y4]; exact z4 m ρ c ok

/-! The last pass. -/
include ok in
/-- When the last pass begins, both halves hold the factor of the fifth layer's affine form. -/
theorem a5 (p : Fin 2) (c' : Fin 64) : at2 (N := 1) (K := 128) (φ := .f32) (W27 m ρ c (Proc.devRef .tc main_v275)) 0 (pk p c') = affA (∑ r, (prm m c).h4 r c' * (prm m c).v r) (∑ r, ((prm m c).h4 r c' * (prm m c).h4 r c') * (prm m c).v r) (cnt (prm m c).v) ((prm m c).g4 c') :=
  (h5_v275 (W26 m ρ c) p c').trans (affA_of (s4 m ρ c ok c') (q4 m ρ c ok c') (cnt26 m ρ c) ((base26 m ρ c).g4 c'))
include ok in
/-- When the last pass begins, both halves hold the offset of the fifth layer's affine form. -/
theorem d5 (p : Fin 2) (c' : Fin 64) : at2 (N := 1) (K := 128) (φ := .f32) (W27 m ρ c (Proc.devRef .tc main_v277)) 0 (pk p c') = affD (∑ r, (prm m c).h4 r c' * (prm m c).v r) (∑ r, ((prm m c).h4 r c' * (prm m c).h4 r c') * (prm m c).v r) (cnt (prm m c).v) ((prm m c).g4 c') ((prm m c).b4 c') :=
  (h5_v277 (W26 m ρ c) p c').trans (affD_of (s4 m ρ c ok c') (q4 m ρ c ok c') (cnt26 m ρ c) ((base26 m ρ c).g4 c') ((base26 m ρ c).b4 c'))
include ok in
/-- What the pass computes. -/
theorem z5 : Packs (Pure.Z5 (V27 m ρ) c) (msk (prm m c).v (prm m c).x5) :=
  lay_step (K := 128) ok.v ok.h4_fin ok.g4 (.inl (lin_packs ok.v (p4 m ρ c ok) (base27 m ρ c).v109)) (base27 m ρ c).v41 (base27 m ρ c).v140 (a5 m ρ c ok) (d5 m ρ c ok)
include ok in
/-- The two output layers. -/
theorem o5 : PacksL (Pure.O5 (V27 m ρ) c) (prm m c).y := by
  have b := base27 m ρ c
  have hl : PacksL (pool64 (N := 131072) (M := 2048) (by rfl) (Pure.Z5 (V27 m ρ) c)) (Cert.Net.pool (prm m c).f5) :=
    fun p g c' => pool_packs (z5 m ρ c ok) p g c' _
  intro p g c'
  have h0 : ∀ k : Fin 64, Max.max (α := EReal) ((∑ l : Fin 128, pool64 (N := 131072) (M := 2048) (by rfl) (Pure.Z5 (V27 m ρ) c) g l
      * at2 (N := 128) (K := 128) (φ := .bf16) (W27 m ρ c (Proc.devRef .tc main_v118)) l (pk p k))
      + at2 (N := 1) (K := 128) (φ := .f32) (W27 m ρ c (Proc.devRef .tc main_v129)) 0 (pk p k)) 0 = (prm m c).y0 (ln2 p g) k := fun k =>
    congrArg₂ (fun x y : EReal => max (x + y) 0) (hid_packs b.v118 (Cert.Net.pool (prm m c).f5) (ln2 p g) p (fun k => hl p g k) k) (b.v129 p k)
  have h1 := hid_packs (Z := fun j => Max.max (α := EReal) ((∑ l : Fin 128, pool64 (N := 131072) (M := 2048) (by rfl) (Pure.Z5 (V27 m ρ) c) g l
      * at2 (N := 128) (K := 128) (φ := .bf16) (W27 m ρ c (Proc.devRef .tc main_v118)) l j)
      + at2 (N := 1) (K := 128) (φ := .f32) (W27 m ρ c (Proc.devRef .tc main_v129)) 0 j) 0) b.v127 (prm m c).y0 (ln2 p g) p h0 c'
  exact congrArg₂ (fun x y : EReal => x * y) (congrArg₂ (fun x y : EReal => x + y) h1 (b.v131 p c'))
    (maskL_packs b.v52 b.v140 p g c')

include ok in
/-- The kernel's result, entry by entry. -/
theorem result (p : Fin 2) (g : Fin 2048) (c' : Fin 64) :
    (W29 m ρ c (Proc.devRef .tc main_v282) : FVec Ideal S16x256x64 .f32) (ix3 (la (ln2 p g)) (lb (ln2 p g)) c') = ((prm m c).y (ln2 p g) c' : EReal) := by
  have e : W28 m ρ c (Proc.devRef .tc main_v278) = _ := (W28_arr m ρ c 11).trans (Pure.out5_y (V27 m ρ) c)
  refine (h6_v282 (W28 m ρ c) p g c').trans ?_
  rw [e]
  exact o5 m ρ c ok p g c'

end Cert.KernelIdeal.Chain

end
-- ==== Proof.KRun.lean ====
/- A run of the kernel from any launch: what every array it can reach holds at the end. -/
module

public import proofs.«01_k».proof.Proof.Gen.KernelIdeal.Frame

@[expose] public section

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and each array outside the passes' own holds what the last host line leaves in it. -/
theorem ends : θ_run defs (onTc (τ := τ) (main (F := F))) ⟨m, fun _ => 0, ρ⟩ (fun r =>
    ∀ c : Dev nD, ∀ b ∈ Pipeline.ucRefs τ sig, r.2.mem (((c : Thread nD τ)).1, b) = W29 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h hz => h)

end Cert.KernelIdeal.Chain

end
-- ==== Proof.Pre.lean ====
/- What the precondition says of the network's inputs. -/
module

public import proofs.«01_k».proof.Defs
public import proofs.«01_k».proof.Proof.Base
public import Idealize.ShloMosaic.Lib.ReduceAll
public import Idealize.ShloMosaic.Lib.Affine

@[expose] public section

set_option maxRecDepth 16384

noncomputable section

namespace Cert.Pre_finite_inputs.Gen

open Idealize.ShloMosaic Cert.Pre_finite_inputs

/-- The shape facts the precondition's operations take. -/
theorem facts : Facts where
  bcast_S_S16x256x64x2 := by decide
  reducesTo_S16x256x64x2_S_d0_1_2_3 := by decide
  h_S_ := by decide
  bcast_S_S16x256x3 := by decide
  reducesTo_S16x256x3_S_d0_1_2 := by decide
  bcast_S_S64x5 := by decide
  reducesTo_S64x5_S_d0_1 := by decide
  bcast_S_S64 := by decide
  reducesTo_S64_S_d0 := by decide
  bcast_S_S64x64 := by decide
  reducesTo_S64x64_S_d0_1 := by decide
  bcast_S_S64x128 := by decide
  reducesTo_S64x128_S_d0_1 := by decide

end Cert.Pre_finite_inputs.Gen

namespace Cert.KernelIdeal.Chain

open Idealize.ShloMosaic Idealize.ShloMosaic.TcCoe Idealize.SL.Sem
open Cert.Net Cert.KernelIdeal

/-- The comparison's bound is infinity. -/
theorem top_bits : Ideal.ofBits .f32 0x7F800000#32 = ⊤ := by simp [Ideal.ofBits, Ideal.ieee]

/-- A number whose size compares below infinity is real. -/
theorem fin_of_cmp (x : EReal) (h : Ideal.cmp .olt (max x (-x)) (Ideal.ofBits .f32 0x7F800000#32) = 1#1) : IsFin x := by
  rw [top_bits] at h
  induction x using EReal.rec with
  | bot => simp [Ideal.cmp] at h
  | coe r => exact ⟨r, rfl⟩
  | top => simp [Ideal.cmp] at h

/-- An array whose entries all compare below infinity in size holds reals. -/
theorem fin_of_all {s t : Shape} {axes : List (Fin s.rank)} [Subsingleton t.Idx] (x : FVec Ideal s .f32) {u : Shape} (d : Fin u.rank → Fin s.rank)
    (hb : u.BroadcastsInDim s d) (hr : s.ReducesTo axes t) {w : Shape} (hw : 0 < w.numel) (j : t.Idx)
    (e : Host.reduce IntOp.andi (cmpf .olt (Host.absf x) (broadcastInDim s d hb (constant (F := Ideal) u .f32 0x7F800000#32))) (constantI w 1 1#1) hr hw j = 1#1)
    (i : s.Idx) : IsFin (x i) :=
  fin_of_cmp (x i) (Host.reduce_andi_all _ _ hr hw j e i)

/-- A conjunction of bits is one exactly where both are. -/
theorem and_one {s : Shape} (a b : IVec s 1) (j : s.Idx) : andi a b j = 1#1 ↔ a j = 1#1 ∧ b j = 1#1 := IntOp.andi_eq_one

/-- The steps between real positions are real. -/
theorem step_fin {a0 : FVec Ideal ⟨4, ![16, 256, 64, 2]⟩ .f32} (h : ∀ i, IsFin (a0 i)) (a : Fin 16) (b : Fin 256) (i : Fin 64) (d : Fin 2) :
    IsFin (step a0 a b i d) := by
  unfold step
  split
  · exact IsFin.zero
  · exact (h _).sub (h _)

/-- A row's features are real where the positions and the attributes are. -/
theorem feat_fin {a0 : FVec Ideal ⟨4, ![16, 256, 64, 2]⟩ .f32} {a1 : FVec Ideal ⟨3, ![16, 256, 3]⟩ .f32} (h0 : ∀ i, IsFin (a0 i)) (h1 : ∀ i, IsFin (a1 i))
    (r : Fin 262144) (k : Fin 5) : IsFin (feat a0 a1 r k) := by
  fin_cases k
  · exact step_fin h0 _ _ _ _
  · exact step_fin h0 _ _ _ _
  · exact (step_fin h0 _ _ _ _).atan2 (step_fin h0 _ _ _ _)
  · exact h1 _
  · exact h1 _

/-- An array without axes has one entry. -/
instance : Subsingleton Cert.Pre_finite_inputs.S_.Idx := ⟨fun a b => funext fun k => k.elim0⟩

open Cert.Pre_finite_inputs in
/-- Under the precondition the network's inputs are as the layers ask. -/
theorem ok_of_pre (m : (ℓ : Loc nD τ sig) → Buf (Elt Ideal) ℓ)
    (h : Cert.Pre_KernelIdeal_finite_inputs (hPre_finite_inputs := Cert.Pre_finite_inputs.Gen.facts) m) (c : Dev nD) : (prm m c).Ok := by
  have e := congrFun (h c) (fun k => k.elim0)
  unfold fn fn_part1 fn_part2 fn_part3 fn_part4 at e
  simp only [and_one, and_assoc] at e
  obtain ⟨e0, e1, e4, e5, e6, e7, e8, e9, e10, e11, e12, e13, e14, e15, e16, e17⟩ := e
  exact {
    v := fun r => bit_isBit _
    x := feat_fin (fin_of_all _ _ _ _ _ _ e0) (fin_of_all _ _ _ _ _ _ e1)
    w0 := fun c k => fin_of_all _ _ _ _ _ _ e4 _
    g0 := fun c => fin_of_all _ _ _ _ _ _ e5 _
    b0 := fun c => fin_of_all _ _ _ _ _ _ e6 _
    w1 := fun c k => fin_of_all _ _ _ _ _ _ e7 _
    g1 := fun c => fin_of_all _ _ _ _ _ _ e8 _
    b1 := fun c => fin_of_all _ _ _ _ _ _ e9 _
    w2 := fun c k => fin_of_all _ _ _ _ _ _ e10 _
    g2 := fun c => fin_of_all _ _ _ _ _ _ e11 _
    b2 := fun c => fin_of_all _ _ _ _ _ _ e12 _
    w3 := fun c k => fin_of_all _ _ _ _ _ _ e13 _
    g3 := fun c => fin_of_all _ _ _ _ _ _ e14 _
    b3 := fun c => fin_of_all _ _ _ _ _ _ e15 _
    w4 := fun c k => fin_of_all _ _ _ _ _ _ e16 _
    g4 := fun c => fin_of_all _ _ _ _ _ _ e17 _ }

end Cert.KernelIdeal.Chain

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.RefB
public import proofs.«01_k».proof.Proof.Equation
public import proofs.«01_k».proof.Proof.KRun
public import proofs.«01_k».proof.Proof.Pre
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.Net

section index

/-- Every lane is a lane of one of the two halves. -/
theorem lane_split (l : Fin 4096) : ∃ (p : Fin 2) (g : Fin 2048), l = ln2 p g :=
  ⟨⟨l.val / 2048, by have := l.isLt; omega⟩, ⟨l.val % 2048, by omega⟩, Fin.ext (by show l.val = l.val / 2048 * 2048 + l.val % 2048; omega)⟩

/-- Every lane's two coordinates come from its number. -/
theorem lane_of (a : Fin 16) (b : Fin 256) : ∃ l : Fin 4096, la l = a ∧ lb l = b := by
  refine ⟨⟨a.val * 256 + b.val, by have := a.isLt; have := b.isLt; omega⟩, Fin.ext ?_, Fin.ext ?_⟩
  · show (a.val * 256 + b.val) / 256 = a.val
    have := b.isLt; omega
  · show (a.val * 256 + b.val) % 256 = b.val
    have := b.isLt; omega

/-- Two results that agree lane by lane, in halves, are equal. -/
theorem result_ext (x y : FVec Ideal ⟨3, ![16, 256, 64]⟩ .f32)
    (h : ∀ p g c, x (ix3 (la (ln2 p g)) (lb (ln2 p g)) c) = y (ix3 (la (ln2 p g)) (lb (ln2 p g)) c)) : x = y := by
  funext i
  obtain ⟨l, ha, hb⟩ := lane_of (i 0) (i 1)
  obtain ⟨p, g, rfl⟩ := lane_split l
  have e : i = ix3 (la (ln2 p g)) (lb (ln2 p g)) (i 2) := by
    funext k
    fin_cases k
    · exact ha.symm
    · exact hb.symm
    · rfl
  rw [e]
  exact h p g (i 2)

end index

/-- The reference runs to an end with its inputs as launched. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel and the reference end with one result. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Gen.W29 m g c (Proc.devRef .tc Cert.KernelIdeal.main_v282), ?_, ?_⟩
  · refine (θ_run Cert.KernelIdeal.defs _ _).mono (fun r h c => ?_) (Cert.KernelIdeal.Chain.ends (F := Ideal) m g)
    exact ⟨h c _ (Cert.KernelIdeal.Gen.mem_uc Cert.KernelIdeal.main_v282 (by decide)),
      (h c _ (Cert.KernelIdeal.Gen.mem_uc Cert.KernelIdeal.main_arg0 (by decide))).trans (Cert.KernelIdeal.Gen.W29_main_arg0 m g c),
      (h c _ (Cert.KernelIdeal.Gen.mem_uc Cert.KernelIdeal.main_arg1 (by decide))).trans (Cert.KernelIdeal.Gen.W29_main_arg1 m g c),
      (h c _ (Cert.KernelIdeal.Gen.mem_uc Cert.KernelIdeal.main_arg2 (by decide))).trans (Cert.KernelIdeal.Gen.W29_main_arg2 m g c),
      (h c _ (Cert.KernelIdeal.Gen.mem_uc Cert.KernelIdeal.main_arg3 (by decide))).trans (Cert.KernelIdeal.Gen.W29_main_arg3 m g c),
      (h c _ (Cert.KernelIdeal.Gen.mem_uc Cert.KernelIdeal.main_arg4 (by decide))).trans (Cert.KernelIdeal.Gen.W29_main_arg4 m g c),
      (h c _ (Cert.KernelIdeal.Gen.mem_uc Cert.KernelIdeal.main_arg5 (by decide))).trans (Cert.KernelIdeal.Gen.W29_main_arg5 m g c),
      (h c _ (Cert.KernelIdeal.Gen.mem_uc Cert.KernelIdeal.main_arg6 (by decide))).trans (Cert.KernelIdeal.Gen.W29_main_arg6 m g c),
      (h c _ (Cert.KernelIdeal.Gen.mem_uc Cert.KernelIdeal.main_arg7 (by decide))).trans (Cert.KernelIdeal.Gen.W29_main_arg7 m g c),
      (h c _ (Cert.KernelIdeal.Gen.mem_uc Cert.KernelIdeal.main_arg8 (by decide))).trans (Cert.KernelIdeal.Gen.W29_main_arg8 m g c),
      (h c _ (Cert.KernelIdeal.Gen.mem_uc Cert.KernelIdeal.main_arg9 (by decide))).trans (Cert.KernelIdeal.Gen.W29_main_arg9 m g c),
      (h c _ (Cert.KernelIdeal.Gen.mem_uc Cert.KernelIdeal.main_arg10 (by decide))).trans (Cert.KernelIdeal.Gen.W29_main_arg10 m g c),
      (h c _ (Cert.KernelIdeal.Gen.mem_uc Cert.KernelIdeal.main_arg11 (by decide))).trans (Cert.KernelIdeal.Gen.W29_main_arg11 m g c),
      (h c _ (Cert.KernelIdeal.Gen.mem_uc Cert.KernelIdeal.main_arg12 (by decide))).trans (Cert.KernelIdeal.Gen.W29_main_arg12 m g c),
      (h c _ (Cert.KernelIdeal.Gen.mem_uc Cert.KernelIdeal.main_arg13 (by decide))).trans (Cert.KernelIdeal.Gen.W29_main_arg13 m g c),
      (h c _ (Cert.KernelIdeal.Gen.mem_uc Cert.KernelIdeal.main_arg14 (by decide))).trans (Cert.KernelIdeal.Gen.W29_main_arg14 m g c),
      (h c _ (Cert.KernelIdeal.Gen.mem_uc Cert.KernelIdeal.main_arg15 (by decide))).trans (Cert.KernelIdeal.Gen.W29_main_arg15 m g c),
      (h c _ (Cert.KernelIdeal.Gen.mem_uc Cert.KernelIdeal.main_arg16 (by decide))).trans (Cert.KernelIdeal.Gen.W29_main_arg16 m g c),
      (h c _ (Cert.KernelIdeal.Gen.mem_uc Cert.KernelIdeal.main_arg17 (by decide))).trans (Cert.KernelIdeal.Gen.W29_main_arg17 m g c),
      (h c _ (Cert.KernelIdeal.Gen.mem_uc Cert.KernelIdeal.main_arg18 (by decide))).trans (Cert.KernelIdeal.Gen.W29_main_arg18 m g c),
      (h c _ (Cert.KernelIdeal.Gen.mem_uc Cert.KernelIdeal.main_arg19 (by decide))).trans (Cert.KernelIdeal.Gen.W29_main_arg19 m g c),
      (h c _ (Cert.KernelIdeal.Gen.mem_uc Cert.KernelIdeal.main_arg20 (by decide))).trans (Cert.KernelIdeal.Gen.W29_main_arg20 m g c),
      (h c _ (Cert.KernelIdeal.Gen.mem_uc Cert.KernelIdeal.main_arg21 (by decide))).trans (Cert.KernelIdeal.Gen.W29_main_arg21 m g c),
      (h c _ (Cert.KernelIdeal.Gen.mem_uc Cert.KernelIdeal.main_arg22 (by decide))).trans (Cert.KernelIdeal.Gen.W29_main_arg22 m g c)⟩
  · refine (θ_run Cert.ReferenceIdeal.defs _ _).mono (fun r h c => ⟨(h c).1.trans ?_, (h c).2⟩) (Cert.ReferenceIdeal.Value.run (F := Ideal) m' g')
    have hp : Cert.ReferenceIdeal.Net.prm (StableHlo.launchContents m' c) = Cert.KernelIdeal.Chain.prm m c := by
      obtain ⟨h0, h1, h2, h3, h4, h5, h6, h7, h8, h9, h10, h11, h12, h13, h14, h15, h16, h17, h18, h19, h20, h21, h22⟩ := hagree c
      show params (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) = _
      rw [h0, h1, h2, h3, h4, h5, h6, h7, h8, h9, h10, h11, h12, h13, h14, h15, h16, h17, h18, h19, h20, h21, h22]
      rfl
    refine Eq.trans (b := Cert.ReferenceIdeal.Net.result (StableHlo.launchContents m' c)) rfl ?_
    refine result_ext _ _ fun p k j => ?_
    refine (Cert.ReferenceIdeal.Net.result_at _ _ _).trans ?_
    rw [hp]
    exact (Cert.KernelIdeal.Chain.result m g c (Cert.KernelIdeal.Chain.ok_of_pre m hpre c) p k j).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    frame_r, fun m ρ _ => frame_r m ρ trivial, trivial, algebraic⟩

end Cert.Proof

end
